-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_exact_rows [hKernelIdeal : Cert.KernelIdeal.Facts] [hReferenceIdeal : Cert.ReferenceIdeal.Facts] [hOn_exact_rows : Cert.On_exact_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![1, 2048, 16, 64]⟩ : Shape).Idx, (Cert.On_exact_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v8) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![1, 2048, 16, 64]⟩ : Shape).Idx, (Cert.On_exact_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v36) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_exact_rows : Cert.On_exact_rows.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_exact_rows (hKernelIdeal := hKernelIdeal) (hReferenceIdeal := hReferenceIdeal) (hOn_exact_rows := hOn_exact_rows)
-- ==== On_exact_rows.lean ====
abbrev S1x2048x16x64 : Shape := ⟨4, ![1, 2048, 16, 64]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S1x2048x16 : Shape := ⟨3, ![1, 2048, 16]⟩
abbrev S1x16 : Shape := ⟨2, ![1, 16]⟩
abbrev S1x16x1 : Shape := ⟨3, ![1, 16, 1]⟩
abbrev S1x2048x16x1 : Shape := ⟨4, ![1, 2048, 16, 1]⟩

class Facts : Prop where
  reducesTo_S1x16x2048x2048_S1x16x2048_d3 : S1x16x2048x2048.ReducesTo [3] S1x16x2048
  h_S_ : 0 < S_.numel
  bcast_S1x16x2048_S1x16x2048x1_0_1_2 : S1x16x2048.BroadcastsInDim S1x16x2048x1 (![0, 1, 2] : Fin 3 → Fin S1x16x2048x1.rank)
  bcast_S_S1x16x2048x1 : S_.BroadcastsInDim S1x16x2048x1 (![] : Fin 0 → Fin S1x16x2048x1.rank)
  bcast_S1x16x2048x1_S1x16x2048x2048_0_1_2_3 : S1x16x2048x1.BroadcastsInDim S1x16x2048x2048 (![0, 1, 2, 3] : Fin 4 → Fin S1x16x2048x2048.rank)
  natLt_1_32 : 1 < 32
  bcast_S_S1x16x2048x2048 : S_.BroadcastsInDim S1x16x2048x2048 (![] : Fin 0 → Fin S1x16x2048x2048.rank)
  bcast_S_S1x16x2048 : S_.BroadcastsInDim S1x16x2048 (![] : Fin 0 → Fin S1x16x2048.rank)
  bcast_S_S1x2048x16x64 : S_.BroadcastsInDim S1x2048x16x64 (![] : Fin 0 → Fin S1x2048x16x64.rank)
  reducesTo_S1x2048x16x64_S1x2048x16_d3 : S1x2048x16x64.ReducesTo [3] S1x2048x16
  transposes_S1x2048x16_S1x16x2048_0_2_1 : S1x2048x16.Transposes [0, 2, 1] S1x16x2048
  reducesTo_S1x2048x16x64_S1x16_d1_3 : S1x2048x16x64.ReducesTo [1, 3] S1x16
  bcast_S1x16_S1x16x1_0_1 : S1x16.BroadcastsInDim S1x16x1 (![0, 1] : Fin 2 → Fin S1x16x1.rank)
  bcast_S1x16x1_S1x16x2048_0_1_2 : S1x16x1.BroadcastsInDim S1x16x2048 (![0, 1, 2] : Fin 3 → Fin S1x16x2048.rank)
  transposes_S1x16x2048_S1x2048x16_0_2_1 : S1x16x2048.Transposes [0, 2, 1] S1x2048x16
  bcast_S1x2048x16_S1x2048x16x1_0_1_2 : S1x2048x16.BroadcastsInDim S1x2048x16x1 (![0, 1, 2] : Fin 3 → Fin S1x2048x16x1.rank)
  bcast_S1x2048x16x1_S1x2048x16x64_0_1_2_3 : S1x2048x16x1.BroadcastsInDim S1x2048x16x64 (![0, 1, 2, 3] : Fin 4 → Fin S1x2048x16x64.rank)
  dot_S1x2048x16x64_S1x2048x16x64_S1x16x2048x2048_3_3_1_1_02_02_wf : DotDims.WF S1x2048x16x64 S1x2048x16x64 S1x16x2048x2048 [3] [3] [1] [1] [0, 2] [0, 2]

variable [Facts]

def dot_S1x2048x16x64_S1x2048x16x64_S1x16x2048x2048_3_3_1_1_02_02 : DotDims S1x2048x16x64 S1x2048x16x64 S1x16x2048x2048 where
  lhsContracting := [3]
  rhsContracting := [3]
  lhsNonContracting := [1]
  rhsNonContracting := [1]
  lhsBatch := [0, 2]
  rhsBatch := [0, 2]
  wf := dot_S1x2048x16x64_S1x2048x16x64_S1x16x2048x2048_3_3_1_1_02_02_wf
def fn_part14 {F : FTy → Type} [FloatOps F] (main_v258 : IVec S1x16x2048 1) (main_v263 : IVec S1x16x2048 1) (main_v266 : IVec S1x2048x16x64 1) : IVec S1x2048x16x64 1 :=
  let main_c_67 : IVec S_ 1 := constantI S_ 1 1#1
  let main_v267 : IVec S1x16 1 := (fun x v => Host.reduce IntOp.andi x v reducesTo_S1x2048x16x64_S1x16_d1_3 h_S_) main_v266 main_c_67
  let main_v268 : IVec S1x16x2048 1 := andi main_v258 main_v263
  let main_v269 : IVec S1x16x1 1 := broadcastInDim S1x16x1 ![0, 1] bcast_S1x16_S1x16x1_0_1 main_v267
  let main_v270 : IVec S1x16x2048 1 := broadcastInDim S1x16x2048 ![0, 1, 2] bcast_S1x16x1_S1x16x2048_0_1_2 main_v269
  let main_v271 : IVec S1x16x2048 1 := andi main_v268 main_v270
  let main_v272 : IVec S1x2048x16 1 := (transpose S1x2048x16 [0, 2, 1] · transposes_S1x16x2048_S1x2048x16_0_2_1) main_v271
  let main_v273 : IVec S1x2048x16x1 1 := broadcastInDim S1x2048x16x1 ![0, 1, 2] bcast_S1x2048x16_S1x2048x16x1_0_1_2 main_v272
  let main_v274 : IVec S1x2048x16x64 1 := broadcastInDim S1x2048x16x64 ![0, 1, 2, 3] bcast_S1x2048x16x1_S1x2048x16x64_0_1_2_3 main_v273
  main_v274

def fn_part13 {F : FTy → Type} [FloatOps F] (main_arg0 : FVec F S1x2048x16x64 .f32) (main_arg1 : FVec F S1x2048x16x64 .f32) (main_v0 : FVec F S1x16x2048x2048 .f32) (main_v243 : FVec F S1x16x2048x1 .f32) (main_v245 : FVec F S1x16x2048x1 .f32) (main_v246 : FVec F S1x16x2048x1 .f32) (main_v248 : FVec F S1x16x2048x1 .f32) : IVec S1x2048x16x64 1 :=
  let main_cst_61 : FVec F S_ .f32 := constant S_ .f32 0x44198000#32
  let main_v249 : FVec F S1x16x2048x1 .f32 := broadcastInDim S1x16x2048x1 ![] bcast_S_S1x16x2048x1 main_cst_61
  let main_v250 : FVec F S1x16x2048x1 .f32 := subf main_v249 main_v246
  let main_v251 : IVec S1x16x2048x1 1 := cmpf .ole main_v248 main_v250
  let main_v252 : FVec F S1x16x2048x1 .f32 := select main_v251 main_v243 main_v245
  let main_v253 : FVec F S1x16x2048x2048 .f32 := broadcastInDim S1x16x2048x2048 ![0, 1, 2, 3] bcast_S1x16x2048x1_S1x16x2048x2048_0_1_2_3 main_v252
  let main_v254 : IVec S1x16x2048x2048 1 := cmpf .oge main_v0 main_v253
  let main_v255 : IVec S1x16x2048x2048 32 := (extui 32 · natLt_1_32) main_v254
  let main_c_62 : IVec S_ 32 := constantI S_ 32 0#32
  let main_v256 : IVec S1x16x2048 32 := (fun x v => Host.reduce IntOp.addi x v reducesTo_S1x16x2048x2048_S1x16x2048_d3 h_S_) main_v255 main_c_62
  let main_c_63 : IVec S_ 32 := constantI S_ 32 614#32
  let main_v257 : IVec S1x16x2048 32 := broadcastInDim S1x16x2048 ![] bcast_S_S1x16x2048 main_c_63
  let main_v258 : IVec S1x16x2048 1 := cmpi .eq main_v256 main_v257
  let main_v259 : FVec F S1x2048x16x64 .f32 := Host.absf main_arg0
  let main_cst_64 : FVec F S_ .f32 := constant S_ .f32 0x7F800000#32
  let main_v260 : FVec F S1x2048x16x64 .f32 := broadcastInDim S1x2048x16x64 ![] bcast_S_S1x2048x16x64 main_cst_64
  let main_v261 : IVec S1x2048x16x64 1 := cmpf .olt main_v259 main_v260
  let main_c_65 : IVec S_ 1 := constantI S_ 1 1#1
  let main_v262 : IVec S1x2048x16 1 := (fun x v => Host.reduce IntOp.andi x v reducesTo_S1x2048x16x64_S1x2048x16_d3 h_S_) main_v261 main_c_65
  let main_v263 : IVec S1x16x2048 1 := (transpose S1x16x2048 [0, 2, 1] · transposes_S1x2048x16_S1x16x2048_0_2_1) main_v262
  let main_v264 : FVec F S1x2048x16x64 .f32 := Host.absf main_arg1
  let main_cst_66 : FVec F S_ .f32 := constant S_ .f32 0x7F800000#32
  let main_v265 : FVec F S1x2048x16x64 .f32 := broadcastInDim S1x2048x16x64 ![] bcast_S_S1x2048x16x64 main_cst_66
  let main_v266 : IVec S1x2048x16x64 1 := cmpf .olt main_v264 main_v265
  fn_part14 (F := F) main_v258 main_v263 main_v266

def fn_part12 {F : FTy → Type} [FloatOps F] (main_arg0 : FVec F S1x2048x16x64 .f32) (main_arg1 : FVec F S1x2048x16x64 .f32) (main_v0 : FVec F S1x16x2048x2048 .f32) (main_v154 : FVec F S1x16x2048x1 .f32) (main_v155 : FVec F S1x16x2048x1 .f32) (main_v156 : FVec F S1x16x2048x1 .f32) (main_v157 : FVec F S1x16x2048x1 .f32) (main_v188 : FVec F S1x16x2048x1 .f32) (main_v194 : FVec F S1x16x2048x1 .f32) (main_v216 : FVec F S1x16x2048x1 .f32) (main_v224 : FVec F S1x16x2048x1 .f32) (main_v226 : IVec S1x16x2048x1 1) : IVec S1x2048x16x64 1 :=
  let main_v227 : IVec S1x16x2048x1 1 := cmpf .ogt main_v188 main_v154
  let main_v228 : IVec S1x16x2048x1 1 := andi main_v226 main_v227
  let main_v229 : IVec S1x16x2048x1 1 := noti main_v226
  let main_v230 : IVec S1x16x2048x1 1 := cmpf .olt main_v188 main_v156
  let main_v231 : IVec S1x16x2048x1 1 := andi main_v229 main_v230
  let main_v232 : FVec F S1x16x2048x1 .f32 := select main_v228 main_v188 main_v154
  let main_v233 : FVec F S1x16x2048x1 .f32 := select main_v228 main_v194 main_v155
  let main_v234 : FVec F S1x16x2048x1 .f32 := select main_v231 main_v188 main_v156
  let main_v235 : FVec F S1x16x2048x1 .f32 := select main_v231 main_v194 main_v157
  let main_cst_59 : FVec F S_ .f32 := constant S_ .f32 0x44198000#32
  let main_v236 : FVec F S1x16x2048x1 .f32 := broadcastInDim S1x16x2048x1 ![] bcast_S_S1x16x2048x1 main_cst_59
  let main_v237 : IVec S1x16x2048x1 1 := cmpf .oge main_v224 main_v236
  let main_v238 : IVec S1x16x2048x1 1 := cmpf .ogt main_v216 main_v232
  let main_v239 : IVec S1x16x2048x1 1 := andi main_v237 main_v238
  let main_v240 : IVec S1x16x2048x1 1 := noti main_v237
  let main_v241 : IVec S1x16x2048x1 1 := cmpf .olt main_v216 main_v234
  let main_v242 : IVec S1x16x2048x1 1 := andi main_v240 main_v241
  let main_v243 : FVec F S1x16x2048x1 .f32 := select main_v239 main_v216 main_v232
  let main_v244 : FVec F S1x16x2048x1 .f32 := select main_v239 main_v224 main_v233
  let main_v245 : FVec F S1x16x2048x1 .f32 := select main_v242 main_v216 main_v234
  let main_v246 : FVec F S1x16x2048x1 .f32 := select main_v242 main_v224 main_v235
  let main_cst_60 : FVec F S_ .f32 := constant S_ .f32 0x44198000#32
  let main_v247 : FVec F S1x16x2048x1 .f32 := broadcastInDim S1x16x2048x1 ![] bcast_S_S1x16x2048x1 main_cst_60
  let main_v248 : FVec F S1x16x2048x1 .f32 := subf main_v244 main_v247
  fn_part13 (F := F) main_arg0 main_arg1 main_v0 main_v243 main_v245 main_v246 main_v248

def fn_part11 {F : FTy → Type} [FloatOps F] (main_arg0 : FVec F S1x2048x16x64 .f32) (main_arg1 : FVec F S1x2048x16x64 .f32) (main_v0 : FVec F S1x16x2048x2048 .f32) (main_v154 : FVec F S1x16x2048x1 .f32) (main_v155 : FVec F S1x16x2048x1 .f32) (main_v156 : FVec F S1x16x2048x1 .f32) (main_v157 : FVec F S1x16x2048x1 .f32) (main_v188 : FVec F S1x16x2048x1 .f32) (main_v194 : FVec F S1x16x2048x1 .f32) (main_v204 : FVec F S1x16x2048x1 .f32) (main_v206 : IVec S1x16x2048x1 1) (main_v208 : IVec S1x16x2048x1 1) (main_v209 : FVec F S1x16x2048x2048 .f32) : IVec S1x2048x16x64 1 :=
  let main_v210 : IVec S1x16x2048x2048 1 := cmpf .ogt main_v0 main_v209
  let main_cst_52 : FVec F S_ .f32 := constant S_ .f32 0x7F800000#32
  let main_v211 : FVec F S1x16x2048x2048 .f32 := broadcastInDim S1x16x2048x2048 ![] bcast_S_S1x16x2048x2048 main_cst_52
  let main_v212 : FVec F S1x16x2048x2048 .f32 := select main_v210 main_v0 main_v211
  let main_cst_53 : FVec F S_ .f32 := constant S_ .f32 0x7F800000#32
  let main_v213 : FVec F S1x16x2048 .f32 := (fun x v => Host.reduce FloatOps.minimumf x v reducesTo_S1x16x2048x2048_S1x16x2048_d3 h_S_) main_v212 main_cst_53
  let main_v214 : FVec F S1x16x2048x1 .f32 := broadcastInDim S1x16x2048x1 ![0, 1, 2] bcast_S1x16x2048_S1x16x2048x1_0_1_2 main_v213
  let main_v215 : FVec F S1x16x2048x1 .f32 := select main_v208 main_v204 main_v188
  let main_v216 : FVec F S1x16x2048x1 .f32 := select main_v206 main_v214 main_v215
  let main_cst_54 : FVec F S_ .f32 := constant S_ .f32 0x3F800000#32
  let main_v217 : FVec F S1x16x2048x1 .f32 := broadcastInDim S1x16x2048x1 ![] bcast_S_S1x16x2048x1 main_cst_54
  let main_cst_55 : FVec F S_ .f32 := constant S_ .f32 0x00000000#32
  let main_v218 : FVec F S1x16x2048x1 .f32 := broadcastInDim S1x16x2048x1 ![] bcast_S_S1x16x2048x1 main_cst_55
  let main_v219 : FVec F S1x16x2048x1 .f32 := select main_v208 main_v217 main_v218
  let main_v220 : FVec F S1x16x2048x1 .f32 := addf main_v194 main_v219
  let main_cst_56 : FVec F S_ .f32 := constant S_ .f32 0x3F800000#32
  let main_v221 : FVec F S1x16x2048x1 .f32 := broadcastInDim S1x16x2048x1 ![] bcast_S_S1x16x2048x1 main_cst_56
  let main_cst_57 : FVec F S_ .f32 := constant S_ .f32 0x00000000#32
  let main_v222 : FVec F S1x16x2048x1 .f32 := broadcastInDim S1x16x2048x1 ![] bcast_S_S1x16x2048x1 main_cst_57
  let main_v223 : FVec F S1x16x2048x1 .f32 := select main_v206 main_v221 main_v222
  let main_v224 : FVec F S1x16x2048x1 .f32 := subf main_v220 main_v223
  let main_cst_58 : FVec F S_ .f32 := constant S_ .f32 0x44198000#32
  let main_v225 : FVec F S1x16x2048x1 .f32 := broadcastInDim S1x16x2048x1 ![] bcast_S_S1x16x2048x1 main_cst_58
  let main_v226 : IVec S1x16x2048x1 1 := cmpf .oge main_v194 main_v225
  fn_part12 (F := F) main_arg0 main_arg1 main_v0 main_v154 main_v155 main_v156 main_v157 main_v188 main_v194 main_v216 main_v224 main_v226

def fn_part10 {F : FTy → Type} [FloatOps F] (main_arg0 : FVec F S1x2048x16x64 .f32) (main_arg1 : FVec F S1x2048x16x64 .f32) (main_v0 : FVec F S1x16x2048x2048 .f32) (main_v154 : FVec F S1x16x2048x1 .f32) (main_v155 : FVec F S1x16x2048x1 .f32) (main_v156 : FVec F S1x16x2048x1 .f32) (main_v157 : FVec F S1x16x2048x1 .f32) (main_v188 : FVec F S1x16x2048x1 .f32) (main_v191 : IVec S1x16x2048x2048 32) (main_c_45 : IVec S_ 32) : IVec S1x2048x16x64 1 :=
  let main_v192 : IVec S1x16x2048 32 := (fun x v => Host.reduce IntOp.addi x v reducesTo_S1x16x2048x2048_S1x16x2048_d3 h_S_) main_v191 main_c_45
  let main_v193 : IVec S1x16x2048x1 32 := broadcastInDim S1x16x2048x1 ![0, 1, 2] bcast_S1x16x2048_S1x16x2048x1_0_1_2 main_v192
  let main_v194 : FVec F S1x16x2048x1 .f32 := sitofp .f32 main_v193
  let main_v195 : FVec F S1x16x2048x2048 .f32 := broadcastInDim S1x16x2048x2048 ![0, 1, 2, 3] bcast_S1x16x2048x1_S1x16x2048x2048_0_1_2_3 main_v188
  let main_v196 : IVec S1x16x2048x2048 1 := cmpf .oge main_v0 main_v195
  let main_cst_46 : FVec F S_ .f32 := constant S_ .f32 0x7F800000#32
  let main_v197 : FVec F S1x16x2048x2048 .f32 := broadcastInDim S1x16x2048x2048 ![] bcast_S_S1x16x2048x2048 main_cst_46
  let main_v198 : FVec F S1x16x2048x2048 .f32 := select main_v196 main_v0 main_v197
  let main_cst_47 : FVec F S_ .f32 := constant S_ .f32 0x7F800000#32
  let main_v199 : FVec F S1x16x2048 .f32 := (fun x v => Host.reduce FloatOps.minimumf x v reducesTo_S1x16x2048x2048_S1x16x2048_d3 h_S_) main_v198 main_cst_47
  let main_v200 : FVec F S1x16x2048x1 .f32 := broadcastInDim S1x16x2048x1 ![0, 1, 2] bcast_S1x16x2048_S1x16x2048x1_0_1_2 main_v199
  let main_cst_48 : FVec F S_ .f32 := constant S_ .f32 0xFF800000#32
  let main_v201 : FVec F S1x16x2048x2048 .f32 := broadcastInDim S1x16x2048x2048 ![] bcast_S_S1x16x2048x2048 main_cst_48
  let main_v202 : FVec F S1x16x2048x2048 .f32 := select main_v196 main_v201 main_v0
  let main_cst_49 : FVec F S_ .f32 := constant S_ .f32 0xFF800000#32
  let main_v203 : FVec F S1x16x2048 .f32 := (fun x v => Host.reduce FloatOps.maximumf x v reducesTo_S1x16x2048x2048_S1x16x2048_d3 h_S_) main_v202 main_cst_49
  let main_v204 : FVec F S1x16x2048x1 .f32 := broadcastInDim S1x16x2048x1 ![0, 1, 2] bcast_S1x16x2048_S1x16x2048x1_0_1_2 main_v203
  let main_cst_50 : FVec F S_ .f32 := constant S_ .f32 0x44198000#32
  let main_v205 : FVec F S1x16x2048x1 .f32 := broadcastInDim S1x16x2048x1 ![] bcast_S_S1x16x2048x1 main_cst_50
  let main_v206 : IVec S1x16x2048x1 1 := cmpf .ogt main_v194 main_v205
  let main_cst_51 : FVec F S_ .f32 := constant S_ .f32 0x44198000#32
  let main_v207 : FVec F S1x16x2048x1 .f32 := broadcastInDim S1x16x2048x1 ![] bcast_S_S1x16x2048x1 main_cst_51
  let main_v208 : IVec S1x16x2048x1 1 := cmpf .olt main_v194 main_v207
  let main_v209 : FVec F S1x16x2048x2048 .f32 := broadcastInDim S1x16x2048x2048 ![0, 1, 2, 3] bcast_S1x16x2048x1_S1x16x2048x2048_0_1_2_3 main_v200
  fn_part11 (F := F) main_arg0 main_arg1 main_v0 main_v154 main_v155 main_v156 main_v157 main_v188 main_v194 main_v204 main_v206 main_v208 main_v209

def fn_part9 {F : FTy → Type} [FloatOps F] (main_arg0 : FVec F S1x2048x16x64 .f32) (main_arg1 : FVec F S1x2048x16x64 .f32) (main_v0 : FVec F S1x16x2048x2048 .f32) (main_v16 : FVec F S1x16x2048x1 .f32) (main_v154 : FVec F S1x16x2048x1 .f32) (main_v155 : FVec F S1x16x2048x1 .f32) (main_v156 : FVec F S1x16x2048x1 .f32) (main_v157 : FVec F S1x16x2048x1 .f32) (main_v170 : FVec F S1x16x2048x1 .f32) (main_v172 : FVec F S1x16x2048x1 .f32) (main_cst_40 : FVec F S_ .f32) : IVec S1x2048x16x64 1 :=
  let main_v173 : FVec F S1x16x2048x1 .f32 := broadcastInDim S1x16x2048x1 ![] bcast_S_S1x16x2048x1 main_cst_40
  let main_v174 : FVec F S1x16x2048x1 .f32 := subf main_v172 main_v173
  let main_v175 : FVec F S1x16x2048x1 .f32 := mulf main_v174 main_v16
  let main_v176 : FVec F S1x16x2048x1 .f32 := addf main_v156 main_v175
  let main_cst_41 : FVec F S_ .f32 := constant S_ .f32 0x44198000#32
  let main_v177 : FVec F S1x16x2048x1 .f32 := broadcastInDim S1x16x2048x1 ![] bcast_S_S1x16x2048x1 main_cst_41
  let main_v178 : FVec F S1x16x2048x1 .f32 := subf main_v155 main_v177
  let main_cst_42 : FVec F S_ .f32 := constant S_ .f32 0x40C00000#32
  let main_v179 : FVec F S1x16x2048x1 .f32 := broadcastInDim S1x16x2048x1 ![] bcast_S_S1x16x2048x1 main_cst_42
  let main_v180 : FVec F S1x16x2048x1 .f32 := addf main_v178 main_v179
  let main_v181 : FVec F S1x16x2048x1 .f32 := mulf main_v180 main_v16
  let main_v182 : FVec F S1x16x2048x1 .f32 := addf main_v154 main_v181
  let main_cst_43 : FVec F S_ .f32 := constant S_ .f32 0xEFA18F08#32
  let main_v183 : FVec F S1x16x2048x1 .f32 := broadcastInDim S1x16x2048x1 ![] bcast_S_S1x16x2048x1 main_cst_43
  let main_v184 : IVec S1x16x2048x1 1 := cmpf .olt main_v154 main_v183
  let main_cst_44 : FVec F S_ .f32 := constant S_ .f32 0x6FA18F08#32
  let main_v185 : FVec F S1x16x2048x1 .f32 := broadcastInDim S1x16x2048x1 ![] bcast_S_S1x16x2048x1 main_cst_44
  let main_v186 : IVec S1x16x2048x1 1 := cmpf .ogt main_v156 main_v185
  let main_v187 : FVec F S1x16x2048x1 .f32 := select main_v186 main_v182 main_v170
  let main_v188 : FVec F S1x16x2048x1 .f32 := select main_v184 main_v176 main_v187
  let main_v189 : FVec F S1x16x2048x2048 .f32 := broadcastInDim S1x16x2048x2048 ![0, 1, 2, 3] bcast_S1x16x2048x1_S1x16x2048x2048_0_1_2_3 main_v188
  let main_v190 : IVec S1x16x2048x2048 1 := cmpf .oge main_v0 main_v189
  let main_v191 : IVec S1x16x2048x2048 32 := (extui 32 · natLt_1_32) main_v190
  let main_c_45 : IVec S_ 32 := constantI S_ 32 0#32
  fn_part10 (F := F) main_arg0 main_arg1 main_v0 main_v154 main_v155 main_v156 main_v157 main_v188 main_v191 main_c_45

def fn_part8 {F : FTy → Type} [FloatOps F] (main_arg0 : FVec F S1x2048x16x64 .f32) (main_arg1 : FVec F S1x2048x16x64 .f32) (main_v0 : FVec F S1x16x2048x2048 .f32) (main_v16 : FVec F S1x16x2048x1 .f32) (main_v106 : FVec F S1x16x2048x1 .f32) (main_v107 : FVec F S1x16x2048x1 .f32) (main_v108 : FVec F S1x16x2048x1 .f32) (main_v109 : FVec F S1x16x2048x1 .f32) (main_v140 : FVec F S1x16x2048x1 .f32) (main_v146 : FVec F S1x16x2048x1 .f32) (main_v150 : IVec S1x16x2048x1 1) (main_v153 : IVec S1x16x2048x1 1) : IVec S1x2048x16x64 1 :=
  let main_v154 : FVec F S1x16x2048x1 .f32 := select main_v150 main_v140 main_v106
  let main_v155 : FVec F S1x16x2048x1 .f32 := select main_v150 main_v146 main_v107
  let main_v156 : FVec F S1x16x2048x1 .f32 := select main_v153 main_v140 main_v108
  let main_v157 : FVec F S1x16x2048x1 .f32 := select main_v153 main_v146 main_v109
  let main_cst_36 : FVec F S_ .f32 := constant S_ .f32 0x44198000#32
  let main_v158 : FVec F S1x16x2048x1 .f32 := broadcastInDim S1x16x2048x1 ![] bcast_S_S1x16x2048x1 main_cst_36
  let main_v159 : FVec F S1x16x2048x1 .f32 := subf main_v155 main_v158
  let main_cst_37 : FVec F S_ .f32 := constant S_ .f32 0x3F000000#32
  let main_v160 : FVec F S1x16x2048x1 .f32 := broadcastInDim S1x16x2048x1 ![] bcast_S_S1x16x2048x1 main_cst_37
  let main_v161 : FVec F S1x16x2048x1 .f32 := addf main_v159 main_v160
  let main_v162 : FVec F S1x16x2048x1 .f32 := subf main_v155 main_v157
  let main_cst_38 : FVec F S_ .f32 := constant S_ .f32 0x3089705F#32
  let main_v163 : FVec F S1x16x2048x1 .f32 := broadcastInDim S1x16x2048x1 ![] bcast_S_S1x16x2048x1 main_cst_38
  let main_v164 : FVec F S1x16x2048x1 .f32 := maximumf main_v162 main_v163
  let main_v165 : FVec F S1x16x2048x1 .f32 := Host.divf main_v161 main_v164
  let main_v166 : FVec F S1x16x2048x1 .f32 := subf main_v156 main_v154
  let main_v167 : FVec F S1x16x2048x1 .f32 := mulf main_v165 main_v166
  let main_v168 : FVec F S1x16x2048x1 .f32 := addf main_v154 main_v167
  let main_v169 : FVec F S1x16x2048x1 .f32 := maximumf main_v154 main_v168
  let main_v170 : FVec F S1x16x2048x1 .f32 := minimumf main_v156 main_v169
  let main_cst_39 : FVec F S_ .f32 := constant S_ .f32 0x44198000#32
  let main_v171 : FVec F S1x16x2048x1 .f32 := broadcastInDim S1x16x2048x1 ![] bcast_S_S1x16x2048x1 main_cst_39
  let main_v172 : FVec F S1x16x2048x1 .f32 := subf main_v157 main_v171
  let main_cst_40 : FVec F S_ .f32 := constant S_ .f32 0x40C00000#32
  fn_part9 (F := F) main_arg0 main_arg1 main_v0 main_v16 main_v154 main_v155 main_v156 main_v157 main_v170 main_v172 main_cst_40

def fn_part7 {F : FTy → Type} [FloatOps F] (main_arg0 : FVec F S1x2048x16x64 .f32) (main_arg1 : FVec F S1x2048x16x64 .f32) (main_v0 : FVec F S1x16x2048x2048 .f32) (main_v16 : FVec F S1x16x2048x1 .f32) (main_v106 : FVec F S1x16x2048x1 .f32) (main_v107 : FVec F S1x16x2048x1 .f32) (main_v108 : FVec F S1x16x2048x1 .f32) (main_v109 : FVec F S1x16x2048x1 .f32) (main_v122 : FVec F S1x16x2048x1 .f32) (main_v128 : FVec F S1x16x2048x1 .f32) (main_v133 : FVec F S1x16x2048x1 .f32) : IVec S1x2048x16x64 1 :=
  let main_v134 : FVec F S1x16x2048x1 .f32 := addf main_v106 main_v133
  let main_cst_32 : FVec F S_ .f32 := constant S_ .f32 0xEFA18F08#32
  let main_v135 : FVec F S1x16x2048x1 .f32 := broadcastInDim S1x16x2048x1 ![] bcast_S_S1x16x2048x1 main_cst_32
  let main_v136 : IVec S1x16x2048x1 1 := cmpf .olt main_v106 main_v135
  let main_cst_33 : FVec F S_ .f32 := constant S_ .f32 0x6FA18F08#32
  let main_v137 : FVec F S1x16x2048x1 .f32 := broadcastInDim S1x16x2048x1 ![] bcast_S_S1x16x2048x1 main_cst_33
  let main_v138 : IVec S1x16x2048x1 1 := cmpf .ogt main_v108 main_v137
  let main_v139 : FVec F S1x16x2048x1 .f32 := select main_v138 main_v134 main_v122
  let main_v140 : FVec F S1x16x2048x1 .f32 := select main_v136 main_v128 main_v139
  let main_v141 : FVec F S1x16x2048x2048 .f32 := broadcastInDim S1x16x2048x2048 ![0, 1, 2, 3] bcast_S1x16x2048x1_S1x16x2048x2048_0_1_2_3 main_v140
  let main_v142 : IVec S1x16x2048x2048 1 := cmpf .oge main_v0 main_v141
  let main_v143 : IVec S1x16x2048x2048 32 := (extui 32 · natLt_1_32) main_v142
  let main_c_34 : IVec S_ 32 := constantI S_ 32 0#32
  let main_v144 : IVec S1x16x2048 32 := (fun x v => Host.reduce IntOp.addi x v reducesTo_S1x16x2048x2048_S1x16x2048_d3 h_S_) main_v143 main_c_34
  let main_v145 : IVec S1x16x2048x1 32 := broadcastInDim S1x16x2048x1 ![0, 1, 2] bcast_S1x16x2048_S1x16x2048x1_0_1_2 main_v144
  let main_v146 : FVec F S1x16x2048x1 .f32 := sitofp .f32 main_v145
  let main_cst_35 : FVec F S_ .f32 := constant S_ .f32 0x44198000#32
  let main_v147 : FVec F S1x16x2048x1 .f32 := broadcastInDim S1x16x2048x1 ![] bcast_S_S1x16x2048x1 main_cst_35
  let main_v148 : IVec S1x16x2048x1 1 := cmpf .oge main_v146 main_v147
  let main_v149 : IVec S1x16x2048x1 1 := cmpf .ogt main_v140 main_v106
  let main_v150 : IVec S1x16x2048x1 1 := andi main_v148 main_v149
  let main_v151 : IVec S1x16x2048x1 1 := noti main_v148
  let main_v152 : IVec S1x16x2048x1 1 := cmpf .olt main_v140 main_v108
  let main_v153 : IVec S1x16x2048x1 1 := andi main_v151 main_v152
  fn_part8 (F := F) main_arg0 main_arg1 main_v0 main_v16 main_v106 main_v107 main_v108 main_v109 main_v140 main_v146 main_v150 main_v153

def fn_part6 {F : FTy → Type} [FloatOps F] (main_arg0 : FVec F S1x2048x16x64 .f32) (main_arg1 : FVec F S1x2048x16x64 .f32) (main_v0 : FVec F S1x16x2048x2048 .f32) (main_v16 : FVec F S1x16x2048x1 .f32) (main_v106 : FVec F S1x16x2048x1 .f32) (main_v107 : FVec F S1x16x2048x1 .f32) (main_v108 : FVec F S1x16x2048x1 .f32) (main_v109 : FVec F S1x16x2048x1 .f32) (main_v113 : FVec F S1x16x2048x1 .f32) (main_v114 : FVec F S1x16x2048x1 .f32) : IVec S1x2048x16x64 1 :=
  let main_cst_27 : FVec F S_ .f32 := constant S_ .f32 0x3089705F#32
  let main_v115 : FVec F S1x16x2048x1 .f32 := broadcastInDim S1x16x2048x1 ![] bcast_S_S1x16x2048x1 main_cst_27
  let main_v116 : FVec F S1x16x2048x1 .f32 := maximumf main_v114 main_v115
  let main_v117 : FVec F S1x16x2048x1 .f32 := Host.divf main_v113 main_v116
  let main_v118 : FVec F S1x16x2048x1 .f32 := subf main_v108 main_v106
  let main_v119 : FVec F S1x16x2048x1 .f32 := mulf main_v117 main_v118
  let main_v120 : FVec F S1x16x2048x1 .f32 := addf main_v106 main_v119
  let main_v121 : FVec F S1x16x2048x1 .f32 := maximumf main_v106 main_v120
  let main_v122 : FVec F S1x16x2048x1 .f32 := minimumf main_v108 main_v121
  let main_cst_28 : FVec F S_ .f32 := constant S_ .f32 0x44198000#32
  let main_v123 : FVec F S1x16x2048x1 .f32 := broadcastInDim S1x16x2048x1 ![] bcast_S_S1x16x2048x1 main_cst_28
  let main_v124 : FVec F S1x16x2048x1 .f32 := subf main_v109 main_v123
  let main_cst_29 : FVec F S_ .f32 := constant S_ .f32 0x40C00000#32
  let main_v125 : FVec F S1x16x2048x1 .f32 := broadcastInDim S1x16x2048x1 ![] bcast_S_S1x16x2048x1 main_cst_29
  let main_v126 : FVec F S1x16x2048x1 .f32 := subf main_v124 main_v125
  let main_v127 : FVec F S1x16x2048x1 .f32 := mulf main_v126 main_v16
  let main_v128 : FVec F S1x16x2048x1 .f32 := addf main_v108 main_v127
  let main_cst_30 : FVec F S_ .f32 := constant S_ .f32 0x44198000#32
  let main_v129 : FVec F S1x16x2048x1 .f32 := broadcastInDim S1x16x2048x1 ![] bcast_S_S1x16x2048x1 main_cst_30
  let main_v130 : FVec F S1x16x2048x1 .f32 := subf main_v107 main_v129
  let main_cst_31 : FVec F S_ .f32 := constant S_ .f32 0x40C00000#32
  let main_v131 : FVec F S1x16x2048x1 .f32 := broadcastInDim S1x16x2048x1 ![] bcast_S_S1x16x2048x1 main_cst_31
  let main_v132 : FVec F S1x16x2048x1 .f32 := addf main_v130 main_v131
  let main_v133 : FVec F S1x16x2048x1 .f32 := mulf main_v132 main_v16
  fn_part7 (F := F) main_arg0 main_arg1 main_v0 main_v16 main_v106 main_v107 main_v108 main_v109 main_v122 main_v128 main_v133

def fn_part5 {F : FTy → Type} [FloatOps F] (main_arg0 : FVec F S1x2048x16x64 .f32) (main_arg1 : FVec F S1x2048x16x64 .f32) (main_v0 : FVec F S1x16x2048x2048 .f32) (main_v16 : FVec F S1x16x2048x1 .f32) (main_v58 : FVec F S1x16x2048x1 .f32) (main_v59 : FVec F S1x16x2048x1 .f32) (main_v60 : FVec F S1x16x2048x1 .f32) (main_v61 : FVec F S1x16x2048x1 .f32) (main_v92 : FVec F S1x16x2048x1 .f32) (main_v94 : IVec S1x16x2048x2048 1) : IVec S1x2048x16x64 1 :=
  let main_v95 : IVec S1x16x2048x2048 32 := (extui 32 · natLt_1_32) main_v94
  let main_c_23 : IVec S_ 32 := constantI S_ 32 0#32
  let main_v96 : IVec S1x16x2048 32 := (fun x v => Host.reduce IntOp.addi x v reducesTo_S1x16x2048x2048_S1x16x2048_d3 h_S_) main_v95 main_c_23
  let main_v97 : IVec S1x16x2048x1 32 := broadcastInDim S1x16x2048x1 ![0, 1, 2] bcast_S1x16x2048_S1x16x2048x1_0_1_2 main_v96
  let main_v98 : FVec F S1x16x2048x1 .f32 := sitofp .f32 main_v97
  let main_cst_24 : FVec F S_ .f32 := constant S_ .f32 0x44198000#32
  let main_v99 : FVec F S1x16x2048x1 .f32 := broadcastInDim S1x16x2048x1 ![] bcast_S_S1x16x2048x1 main_cst_24
  let main_v100 : IVec S1x16x2048x1 1 := cmpf .oge main_v98 main_v99
  let main_v101 : IVec S1x16x2048x1 1 := cmpf .ogt main_v92 main_v58
  let main_v102 : IVec S1x16x2048x1 1 := andi main_v100 main_v101
  let main_v103 : IVec S1x16x2048x1 1 := noti main_v100
  let main_v104 : IVec S1x16x2048x1 1 := cmpf .olt main_v92 main_v60
  let main_v105 : IVec S1x16x2048x1 1 := andi main_v103 main_v104
  let main_v106 : FVec F S1x16x2048x1 .f32 := select main_v102 main_v92 main_v58
  let main_v107 : FVec F S1x16x2048x1 .f32 := select main_v102 main_v98 main_v59
  let main_v108 : FVec F S1x16x2048x1 .f32 := select main_v105 main_v92 main_v60
  let main_v109 : FVec F S1x16x2048x1 .f32 := select main_v105 main_v98 main_v61
  let main_cst_25 : FVec F S_ .f32 := constant S_ .f32 0x44198000#32
  let main_v110 : FVec F S1x16x2048x1 .f32 := broadcastInDim S1x16x2048x1 ![] bcast_S_S1x16x2048x1 main_cst_25
  let main_v111 : FVec F S1x16x2048x1 .f32 := subf main_v107 main_v110
  let main_cst_26 : FVec F S_ .f32 := constant S_ .f32 0x3F000000#32
  let main_v112 : FVec F S1x16x2048x1 .f32 := broadcastInDim S1x16x2048x1 ![] bcast_S_S1x16x2048x1 main_cst_26
  let main_v113 : FVec F S1x16x2048x1 .f32 := addf main_v111 main_v112
  let main_v114 : FVec F S1x16x2048x1 .f32 := subf main_v107 main_v109
  fn_part6 (F := F) main_arg0 main_arg1 main_v0 main_v16 main_v106 main_v107 main_v108 main_v109 main_v113 main_v114

def fn_part4 {F : FTy → Type} [FloatOps F] (main_arg0 : FVec F S1x2048x16x64 .f32) (main_arg1 : FVec F S1x2048x16x64 .f32) (main_v0 : FVec F S1x16x2048x2048 .f32) (main_v16 : FVec F S1x16x2048x1 .f32) (main_v58 : FVec F S1x16x2048x1 .f32) (main_v59 : FVec F S1x16x2048x1 .f32) (main_v60 : FVec F S1x16x2048x1 .f32) (main_v61 : FVec F S1x16x2048x1 .f32) (main_v74 : FVec F S1x16x2048x1 .f32) (main_v75 : FVec F S1x16x2048x1 .f32) : IVec S1x2048x16x64 1 :=
  let main_v76 : FVec F S1x16x2048x1 .f32 := subf main_v61 main_v75
  let main_cst_18 : FVec F S_ .f32 := constant S_ .f32 0x40C00000#32
  let main_v77 : FVec F S1x16x2048x1 .f32 := broadcastInDim S1x16x2048x1 ![] bcast_S_S1x16x2048x1 main_cst_18
  let main_v78 : FVec F S1x16x2048x1 .f32 := subf main_v76 main_v77
  let main_v79 : FVec F S1x16x2048x1 .f32 := mulf main_v78 main_v16
  let main_v80 : FVec F S1x16x2048x1 .f32 := addf main_v60 main_v79
  let main_cst_19 : FVec F S_ .f32 := constant S_ .f32 0x44198000#32
  let main_v81 : FVec F S1x16x2048x1 .f32 := broadcastInDim S1x16x2048x1 ![] bcast_S_S1x16x2048x1 main_cst_19
  let main_v82 : FVec F S1x16x2048x1 .f32 := subf main_v59 main_v81
  let main_cst_20 : FVec F S_ .f32 := constant S_ .f32 0x40C00000#32
  let main_v83 : FVec F S1x16x2048x1 .f32 := broadcastInDim S1x16x2048x1 ![] bcast_S_S1x16x2048x1 main_cst_20
  let main_v84 : FVec F S1x16x2048x1 .f32 := addf main_v82 main_v83
  let main_v85 : FVec F S1x16x2048x1 .f32 := mulf main_v84 main_v16
  let main_v86 : FVec F S1x16x2048x1 .f32 := addf main_v58 main_v85
  let main_cst_21 : FVec F S_ .f32 := constant S_ .f32 0xEFA18F08#32
  let main_v87 : FVec F S1x16x2048x1 .f32 := broadcastInDim S1x16x2048x1 ![] bcast_S_S1x16x2048x1 main_cst_21
  let main_v88 : IVec S1x16x2048x1 1 := cmpf .olt main_v58 main_v87
  let main_cst_22 : FVec F S_ .f32 := constant S_ .f32 0x6FA18F08#32
  let main_v89 : FVec F S1x16x2048x1 .f32 := broadcastInDim S1x16x2048x1 ![] bcast_S_S1x16x2048x1 main_cst_22
  let main_v90 : IVec S1x16x2048x1 1 := cmpf .ogt main_v60 main_v89
  let main_v91 : FVec F S1x16x2048x1 .f32 := select main_v90 main_v86 main_v74
  let main_v92 : FVec F S1x16x2048x1 .f32 := select main_v88 main_v80 main_v91
  let main_v93 : FVec F S1x16x2048x2048 .f32 := broadcastInDim S1x16x2048x2048 ![0, 1, 2, 3] bcast_S1x16x2048x1_S1x16x2048x2048_0_1_2_3 main_v92
  let main_v94 : IVec S1x16x2048x2048 1 := cmpf .oge main_v0 main_v93
  fn_part5 (F := F) main_arg0 main_arg1 main_v0 main_v16 main_v58 main_v59 main_v60 main_v61 main_v92 main_v94

def fn_part3 {F : FTy → Type} [FloatOps F] (main_arg0 : FVec F S1x2048x16x64 .f32) (main_arg1 : FVec F S1x2048x16x64 .f32) (main_v0 : FVec F S1x16x2048x2048 .f32) (main_v16 : FVec F S1x16x2048x1 .f32) (main_v29 : FVec F S1x16x2048x1 .f32) (main_v41 : FVec F S1x16x2048x1 .f32) (main_v42 : FVec F S1x16x2048x1 .f32) (main_v43 : FVec F S1x16x2048x1 .f32) (main_v44 : FVec F S1x16x2048x1 .f32) (main_v50 : FVec F S1x16x2048x1 .f32) (main_v54 : IVec S1x16x2048x1 1) (main_v55 : IVec S1x16x2048x1 1) : IVec S1x2048x16x64 1 :=
  let main_v56 : IVec S1x16x2048x1 1 := cmpf .olt main_v29 main_v43
  let main_v57 : IVec S1x16x2048x1 1 := andi main_v55 main_v56
  let main_v58 : FVec F S1x16x2048x1 .f32 := select main_v54 main_v29 main_v41
  let main_v59 : FVec F S1x16x2048x1 .f32 := select main_v54 main_v50 main_v42
  let main_v60 : FVec F S1x16x2048x1 .f32 := select main_v57 main_v29 main_v43
  let main_v61 : FVec F S1x16x2048x1 .f32 := select main_v57 main_v50 main_v44
  let main_cst_14 : FVec F S_ .f32 := constant S_ .f32 0x44198000#32
  let main_v62 : FVec F S1x16x2048x1 .f32 := broadcastInDim S1x16x2048x1 ![] bcast_S_S1x16x2048x1 main_cst_14
  let main_v63 : FVec F S1x16x2048x1 .f32 := subf main_v59 main_v62
  let main_cst_15 : FVec F S_ .f32 := constant S_ .f32 0x3F000000#32
  let main_v64 : FVec F S1x16x2048x1 .f32 := broadcastInDim S1x16x2048x1 ![] bcast_S_S1x16x2048x1 main_cst_15
  let main_v65 : FVec F S1x16x2048x1 .f32 := addf main_v63 main_v64
  let main_v66 : FVec F S1x16x2048x1 .f32 := subf main_v59 main_v61
  let main_cst_16 : FVec F S_ .f32 := constant S_ .f32 0x3089705F#32
  let main_v67 : FVec F S1x16x2048x1 .f32 := broadcastInDim S1x16x2048x1 ![] bcast_S_S1x16x2048x1 main_cst_16
  let main_v68 : FVec F S1x16x2048x1 .f32 := maximumf main_v66 main_v67
  let main_v69 : FVec F S1x16x2048x1 .f32 := Host.divf main_v65 main_v68
  let main_v70 : FVec F S1x16x2048x1 .f32 := subf main_v60 main_v58
  let main_v71 : FVec F S1x16x2048x1 .f32 := mulf main_v69 main_v70
  let main_v72 : FVec F S1x16x2048x1 .f32 := addf main_v58 main_v71
  let main_v73 : FVec F S1x16x2048x1 .f32 := maximumf main_v58 main_v72
  let main_v74 : FVec F S1x16x2048x1 .f32 := minimumf main_v60 main_v73
  let main_cst_17 : FVec F S_ .f32 := constant S_ .f32 0x44198000#32
  let main_v75 : FVec F S1x16x2048x1 .f32 := broadcastInDim S1x16x2048x1 ![] bcast_S_S1x16x2048x1 main_cst_17
  fn_part4 (F := F) main_arg0 main_arg1 main_v0 main_v16 main_v58 main_v59 main_v60 main_v61 main_v74 main_v75

def fn_part2 {F : FTy → Type} [FloatOps F] (main_arg0 : FVec F S1x2048x16x64 .f32) (main_arg1 : FVec F S1x2048x16x64 .f32) (main_v0 : FVec F S1x16x2048x2048 .f32) (main_v16 : FVec F S1x16x2048x1 .f32) (main_v19 : FVec F S1x16x2048x1 .f32) (main_v25 : FVec F S1x16x2048x1 .f32) (main_v29 : FVec F S1x16x2048x1 .f32) (main_v30 : FVec F S1x16x2048x1 .f32) (main_v31 : FVec F S1x16x2048x1 .f32) (main_v32 : FVec F S1x16x2048x1 .f32) (main_v33 : FVec F S1x16x2048x1 .f32) (main_cst_11 : FVec F S_ .f32) : IVec S1x2048x16x64 1 :=
  let main_v34 : FVec F S1x16x2048x1 .f32 := broadcastInDim S1x16x2048x1 ![] bcast_S_S1x16x2048x1 main_cst_11
  let main_v35 : IVec S1x16x2048x1 1 := cmpf .oge main_v25 main_v34
  let main_v36 : IVec S1x16x2048x1 1 := cmpf .ogt main_v19 main_v30
  let main_v37 : IVec S1x16x2048x1 1 := andi main_v35 main_v36
  let main_v38 : IVec S1x16x2048x1 1 := noti main_v35
  let main_v39 : IVec S1x16x2048x1 1 := cmpf .olt main_v19 main_v32
  let main_v40 : IVec S1x16x2048x1 1 := andi main_v38 main_v39
  let main_v41 : FVec F S1x16x2048x1 .f32 := select main_v37 main_v19 main_v30
  let main_v42 : FVec F S1x16x2048x1 .f32 := select main_v37 main_v25 main_v31
  let main_v43 : FVec F S1x16x2048x1 .f32 := select main_v40 main_v19 main_v32
  let main_v44 : FVec F S1x16x2048x1 .f32 := select main_v40 main_v25 main_v33
  let main_v45 : FVec F S1x16x2048x2048 .f32 := broadcastInDim S1x16x2048x2048 ![0, 1, 2, 3] bcast_S1x16x2048x1_S1x16x2048x2048_0_1_2_3 main_v29
  let main_v46 : IVec S1x16x2048x2048 1 := cmpf .oge main_v0 main_v45
  let main_v47 : IVec S1x16x2048x2048 32 := (extui 32 · natLt_1_32) main_v46
  let main_c_12 : IVec S_ 32 := constantI S_ 32 0#32
  let main_v48 : IVec S1x16x2048 32 := (fun x v => Host.reduce IntOp.addi x v reducesTo_S1x16x2048x2048_S1x16x2048_d3 h_S_) main_v47 main_c_12
  let main_v49 : IVec S1x16x2048x1 32 := broadcastInDim S1x16x2048x1 ![0, 1, 2] bcast_S1x16x2048_S1x16x2048x1_0_1_2 main_v48
  let main_v50 : FVec F S1x16x2048x1 .f32 := sitofp .f32 main_v49
  let main_cst_13 : FVec F S_ .f32 := constant S_ .f32 0x44198000#32
  let main_v51 : FVec F S1x16x2048x1 .f32 := broadcastInDim S1x16x2048x1 ![] bcast_S_S1x16x2048x1 main_cst_13
  let main_v52 : IVec S1x16x2048x1 1 := cmpf .oge main_v50 main_v51
  let main_v53 : IVec S1x16x2048x1 1 := cmpf .ogt main_v29 main_v41
  let main_v54 : IVec S1x16x2048x1 1 := andi main_v52 main_v53
  let main_v55 : IVec S1x16x2048x1 1 := noti main_v52
  fn_part3 (F := F) main_arg0 main_arg1 main_v0 main_v16 main_v29 main_v41 main_v42 main_v43 main_v44 main_v50 main_v54 main_v55

def fn_part1 {F : FTy → Type} [FloatOps F] (main_arg0 : FVec F S1x2048x16x64 .f32) (main_arg1 : FVec F S1x2048x16x64 .f32) (main_v0 : FVec F S1x16x2048x2048 .f32) (main_v4 : FVec F S1x16x2048x1 .f32) (main_v14 : FVec F S1x16x2048x1 .f32) (main_v16 : FVec F S1x16x2048x1 .f32) (main_cst_5 : FVec F S_ .f32) : IVec S1x2048x16x64 1 :=
  let main_v17 : FVec F S1x16x2048x1 .f32 := broadcastInDim S1x16x2048x1 ![] bcast_S_S1x16x2048x1 main_cst_5
  let main_v18 : FVec F S1x16x2048x1 .f32 := mulf main_v17 main_v14
  let main_v19 : FVec F S1x16x2048x1 .f32 := addf main_v4 main_v18
  let main_v20 : FVec F S1x16x2048x2048 .f32 := broadcastInDim S1x16x2048x2048 ![0, 1, 2, 3] bcast_S1x16x2048x1_S1x16x2048x2048_0_1_2_3 main_v19
  let main_v21 : IVec S1x16x2048x2048 1 := cmpf .oge main_v0 main_v20
  let main_v22 : IVec S1x16x2048x2048 32 := (extui 32 · natLt_1_32) main_v21
  let main_c : IVec S_ 32 := constantI S_ 32 0#32
  let main_v23 : IVec S1x16x2048 32 := (fun x v => Host.reduce IntOp.addi x v reducesTo_S1x16x2048x2048_S1x16x2048_d3 h_S_) main_v22 main_c
  let main_v24 : IVec S1x16x2048x1 32 := broadcastInDim S1x16x2048x1 ![0, 1, 2] bcast_S1x16x2048_S1x16x2048x1_0_1_2 main_v23
  let main_v25 : FVec F S1x16x2048x1 .f32 := sitofp .f32 main_v24
  let main_cst_6 : FVec F S_ .f32 := constant S_ .f32 0x44198000#32
  let main_v26 : FVec F S1x16x2048x1 .f32 := broadcastInDim S1x16x2048x1 ![] bcast_S_S1x16x2048x1 main_cst_6
  let main_v27 : FVec F S1x16x2048x1 .f32 := subf main_v25 main_v26
  let main_v28 : FVec F S1x16x2048x1 .f32 := mulf main_v27 main_v16
  let main_v29 : FVec F S1x16x2048x1 .f32 := addf main_v19 main_v28
  let main_cst_7 : FVec F S_ .f32 := constant S_ .f32 0xF149F2CA#32
  let main_v30 : FVec F S1x16x2048x1 .f32 := broadcastInDim S1x16x2048x1 ![] bcast_S_S1x16x2048x1 main_cst_7
  let main_cst_8 : FVec F S_ .f32 := constant S_ .f32 0x45000000#32
  let main_v31 : FVec F S1x16x2048x1 .f32 := broadcastInDim S1x16x2048x1 ![] bcast_S_S1x16x2048x1 main_cst_8
  let main_cst_9 : FVec F S_ .f32 := constant S_ .f32 0x7149F2CA#32
  let main_v32 : FVec F S1x16x2048x1 .f32 := broadcastInDim S1x16x2048x1 ![] bcast_S_S1x16x2048x1 main_cst_9
  let main_cst_10 : FVec F S_ .f32 := constant S_ .f32 0x00000000#32
  let main_v33 : FVec F S1x16x2048x1 .f32 := broadcastInDim S1x16x2048x1 ![] bcast_S_S1x16x2048x1 main_cst_10
  let main_cst_11 : FVec F S_ .f32 := constant S_ .f32 0x44198000#32
  fn_part2 (F := F) main_arg0 main_arg1 main_v0 main_v16 main_v19 main_v25 main_v29 main_v30 main_v31 main_v32 main_v33 main_cst_11

def fn {F : FTy → Type} [FloatOps F] (main_arg0 : FVec F S1x2048x16x64 .f32) (main_arg1 : FVec F S1x2048x16x64 .f32) (main_arg2 : FVec F S1x2048x16x64 .f32) : IVec S1x2048x16x64 1 :=
  let main_v0 : FVec F S1x16x2048x2048 .f32 := (fun l r => Host.dotGeneral dot_S1x2048x16x64_S1x2048x16x64_S1x16x2048x2048_3_3_1_1_02_02 none l r) main_arg0 main_arg1
  let main_cst : FVec F S_ .f32 := constant S_ .f32 0x00000000#32
  let main_v1 : FVec F S1x16x2048 .f32 := (fun x v => Host.reduceAdd x v reducesTo_S1x16x2048x2048_S1x16x2048_d3 h_S_) main_v0 main_cst
  let main_v2 : FVec F S1x16x2048x1 .f32 := broadcastInDim S1x16x2048x1 ![0, 1, 2] bcast_S1x16x2048_S1x16x2048x1_0_1_2 main_v1
  let main_cst_0 : FVec F S_ .f32 := constant S_ .f32 0x3A000000#32
  let main_v3 : FVec F S1x16x2048x1 .f32 := broadcastInDim S1x16x2048x1 ![] bcast_S_S1x16x2048x1 main_cst_0
  let main_v4 : FVec F S1x16x2048x1 .f32 := mulf main_v2 main_v3
  let main_v5 : FVec F S1x16x2048x2048 .f32 := mulf main_v0 main_v0
  let main_cst_1 : FVec F S_ .f32 := constant S_ .f32 0x00000000#32
  let main_v6 : FVec F S1x16x2048 .f32 := (fun x v => Host.reduceAdd x v reducesTo_S1x16x2048x2048_S1x16x2048_d3 h_S_) main_v5 main_cst_1
  let main_v7 : FVec F S1x16x2048x1 .f32 := broadcastInDim S1x16x2048x1 ![0, 1, 2] bcast_S1x16x2048_S1x16x2048x1_0_1_2 main_v6
  let main_cst_2 : FVec F S_ .f32 := constant S_ .f32 0x3A000000#32
  let main_v8 : FVec F S1x16x2048x1 .f32 := broadcastInDim S1x16x2048x1 ![] bcast_S_S1x16x2048x1 main_cst_2
  let main_v9 : FVec F S1x16x2048x1 .f32 := mulf main_v7 main_v8
  let main_v10 : FVec F S1x16x2048x1 .f32 := mulf main_v4 main_v4
  let main_v11 : FVec F S1x16x2048x1 .f32 := subf main_v9 main_v10
  let main_cst_3 : FVec F S_ .f32 := constant S_ .f32 0x1E3CE508#32
  let main_v12 : FVec F S1x16x2048x1 .f32 := broadcastInDim S1x16x2048x1 ![] bcast_S_S1x16x2048x1 main_cst_3
  let main_v13 : FVec F S1x16x2048x1 .f32 := maximumf main_v11 main_v12
  let main_v14 : FVec F S1x16x2048x1 .f32 := Host.sqrt main_v13
  let main_cst_4 : FVec F S_ .f32 := constant S_ .f32 0x3AB81194#32
  let main_v15 : FVec F S1x16x2048x1 .f32 := broadcastInDim S1x16x2048x1 ![] bcast_S_S1x16x2048x1 main_cst_4
  let main_v16 : FVec F S1x16x2048x1 .f32 := mulf main_v14 main_v15
  let main_cst_5 : FVec F S_ .f32 := constant S_ .f32 0x3F063F1D#32
  fn_part1 (F := F) main_arg0 main_arg1 main_v0 main_v4 main_v14 main_v16 main_cst_5
-- ==== Kernel.lean ====
abbrev S1x2048x16x64 : Shape := ⟨4, ![1, 2048, 16, 64]⟩
abbrev S1x16x2048x64 : Shape := ⟨4, ![1, 16, 2048, 64]⟩
abbrev S16x2048x64 : Shape := ⟨3, ![16, 2048, 64]⟩
abbrev S1x2048x64 : Shape := ⟨3, ![1, 2048, 64]⟩
abbrev S64x64 : Shape := ⟨2, ![64, 64]⟩
abbrev S1x64 : Shape := ⟨2, ![1, 64]⟩
abbrev S2048x128 : Shape := ⟨2, ![2048, 128]⟩
abbrev S2048x64 : Shape := ⟨2, ![2048, 64]⟩
abbrev S64 : Shape := ⟨1, ![64]⟩
abbrev S1x1024x64 : Shape := ⟨3, ![1, 1024, 64]⟩
abbrev S1024x64 : Shape := ⟨2, ![1024, 64]⟩
abbrev S1024x2048 : Shape := ⟨2, ![1024, 2048]⟩
abbrev S1024x1 : Shape := ⟨2, ![1024, 1]⟩
abbrev S1024 : Shape := ⟨1, ![1024]⟩
abbrev S1024x128 : Shape := ⟨2, ![1024, 128]⟩

abbrev nBuf : Space → Nat
  | .hbm => 12
  | .vmem => 11
  | .smem => 0
  | _ => 0

abbrev bufTy : (tb : Table) → Fin (tcTables nBuf tb) → BufTy
  | .hbm, ⟨0, _⟩ => ⟨S1x2048x16x64, .f32⟩
  | .hbm, ⟨1, _⟩ => ⟨S1x2048x16x64, .f32⟩
  | .hbm, ⟨2, _⟩ => ⟨S1x2048x16x64, .f32⟩
  | .hbm, ⟨3, _⟩ => ⟨S1x16x2048x64, .f32⟩
  | .hbm, ⟨4, _⟩ => ⟨S16x2048x64, .f32⟩
  | .hbm, ⟨5, _⟩ => ⟨S1x16x2048x64, .f32⟩
  | .hbm, ⟨6, _⟩ => ⟨S16x2048x64, .f32⟩
  | .hbm, ⟨7, _⟩ => ⟨S1x16x2048x64, .f32⟩
  | .hbm, ⟨8, _⟩ => ⟨S16x2048x64, .f32⟩
  | .hbm, ⟨9, _⟩ => ⟨S16x2048x64, .f32⟩
  | .hbm, ⟨10, _⟩ => ⟨S1x16x2048x64, .f32⟩
  | .hbm, ⟨11, _⟩ => ⟨S1x2048x16x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | .local _ .vmem, ⟨8, _⟩ => ⟨S64x64, .f32⟩
  | .local _ .vmem, ⟨9, _⟩ => ⟨S1x64, .f32⟩
  | .local _ .vmem, ⟨10, _⟩ => ⟨S2048x128, .bf16⟩
  | _, _ => ⟨S1x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S1x2048x16x64 : Shape := ⟨4, ![1, 2048, 16, 64]⟩
abbrev S1x16x2048x2048 : Shape := ⟨4, ![1, 16, 2048, 2048]⟩
abbrev S1x16x2048x614 : Shape := ⟨4, ![1, 16, 2048, 614]⟩
abbrev S32768x614 : Shape := ⟨2, ![32768, 614]⟩
abbrev S_ : Shape := ⟨0, ![]⟩
abbrev S32768x2048 : Shape := ⟨2, ![32768, 2048]⟩
abbrev S32768 : Shape := ⟨1, ![32768]⟩
abbrev S32768x1 : Shape := ⟨2, ![32768, 1]⟩
abbrev S32768x614x1 : Shape := ⟨3, ![32768, 614, 1]⟩
abbrev S32768x614x2 : Shape := ⟨3, ![32768, 614, 2]⟩
abbrev S1x16x2048 : Shape := ⟨3, ![1, 16, 2048]⟩
abbrev S1x16x2048x1 : Shape := ⟨4, ![1, 16, 2048, 1]⟩
abbrev S1x16x64x2048 : Shape := ⟨4, ![1, 16, 64, 2048]⟩

abbrev nBuf : Space → Nat
  | .hbm => 51
  | .vmem => 0
  | .smem => 0
  | _ => 0

abbrev bufTy : (tb : Table) → Fin (tcTables nBuf tb) → BufTy
  | .hbm, ⟨0, _⟩ => ⟨S1x2048x16x64, .f32⟩
  | .hbm, ⟨1, _⟩ => ⟨S1x2048x16x64, .f32⟩
  | .hbm, ⟨2, _⟩ => ⟨S1x2048x16x64, .f32⟩
  | .hbm, ⟨3, _⟩ => ⟨S1x16x2048x2048, .f32⟩
  | .hbm, ⟨4, _⟩ => ⟨S1x16x2048x614, .f32⟩
  | .hbm, ⟨5, _⟩ => ⟨S1x16x2048x614, .i32⟩
  | .hbm, ⟨6, _⟩ => ⟨S32768x614, .f32⟩
  | .hbm, ⟨7, _⟩ => ⟨S32768x614, .i32⟩
  | .hbm, ⟨8, _⟩ => ⟨S_, .f32⟩
  | .hbm, ⟨9, _⟩ => ⟨S32768x2048, .f32⟩
  | .hbm, ⟨10, _⟩ => ⟨S32768, .i32⟩
  | .hbm, ⟨11, _⟩ => ⟨S32768x1, .i32⟩
  | .hbm, ⟨12, _⟩ => ⟨S_, .i32⟩
  | .hbm, ⟨13, _⟩ => ⟨S32768x1, .i32⟩
  | .hbm, ⟨14, _⟩ => ⟨S32768x1, .i1⟩
  | .hbm, ⟨15, _⟩ => ⟨S_, .i32⟩
  | .hbm, ⟨16, _⟩ => ⟨S32768x1, .i32⟩
  | .hbm, ⟨17, _⟩ => ⟨S32768x1, .i32⟩
  | .hbm, ⟨18, _⟩ => ⟨S32768x1, .i32⟩
  | .hbm, ⟨19, _⟩ => ⟨S_, .i32⟩
  | .hbm, ⟨20, _⟩ => ⟨S32768x614, .i32⟩
  | .hbm, ⟨21, _⟩ => ⟨S32768x614, .i1⟩
  | .hbm, ⟨22, _⟩ => ⟨S_, .i32⟩
  | .hbm, ⟨23, _⟩ => ⟨S32768x614, .i32⟩
  | .hbm, ⟨24, _⟩ => ⟨S32768x614, .i32⟩
  | .hbm, ⟨25, _⟩ => ⟨S32768x614, .i32⟩
  | .hbm, ⟨26, _⟩ => ⟨S32768x614, .i32⟩
  | .hbm, ⟨27, _⟩ => ⟨S32768x614x1, .i32⟩
  | .hbm, ⟨28, _⟩ => ⟨S32768x614x1, .i32⟩
  | .hbm, ⟨29, _⟩ => ⟨S32768x614x2, .i32⟩
  | .hbm, ⟨30, _⟩ => ⟨S32768x2048, .f32⟩
  | .hbm, ⟨31, _⟩ => ⟨S1x16x2048x2048, .f32⟩
  | .hbm, ⟨32, _⟩ => ⟨S_, .f32⟩
  | .hbm, ⟨33, _⟩ => ⟨S1x16x2048x2048, .f32⟩
  | .hbm, ⟨34, _⟩ => ⟨S1x16x2048x2048, .f32⟩
  | .hbm, ⟨35, _⟩ => ⟨S_, .f32⟩
  | .hbm, ⟨36, _⟩ => ⟨S1x16x2048, .f32⟩
  | .hbm, ⟨37, _⟩ => ⟨S_, .f32⟩
  | .hbm, ⟨38, _⟩ => ⟨S1x16x2048, .f32⟩
  | .hbm, ⟨39, _⟩ => ⟨S1x16x2048, .f32⟩
  | .hbm, ⟨40, _⟩ => ⟨S1x16x2048x1, .f32⟩
  | .hbm, ⟨41, _⟩ => ⟨S1x16x2048x2048, .f32⟩
  | .hbm, ⟨42, _⟩ => ⟨S1x16x2048x2048, .f32⟩
  | .hbm, ⟨43, _⟩ => ⟨S1x16x2048x2048, .f32⟩
  | .hbm, ⟨44, _⟩ => ⟨S_, .f32⟩
  | .hbm, ⟨45, _⟩ => ⟨S1x16x2048, .f32⟩
  | .hbm, ⟨46, _⟩ => ⟨S1x16x2048x1, .f32⟩
  | .hbm, ⟨47, _⟩ => ⟨S1x16x2048x2048, .f32⟩
  | .hbm, ⟨48, _⟩ => ⟨S1x16x2048x2048, .f32⟩
  | .hbm, ⟨49, _⟩ => ⟨S1x16x64x2048, .f32⟩
  | .hbm, ⟨50, _⟩ => ⟨S1x2048x16x64, .f32⟩
  | _, _ => ⟨S1x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_values : Ref sig .tc := ⟨.hbm, 4, rfl⟩
abbrev main_indices : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Proof.Top.lean ====
/-
  The greatest scores of a row: when exactly `K` scores reach a threshold, the first `K` places of the sorted row hold
  exactly those scores.
-/
module

public import Idealize.ShloMosaic.PureOps.Ideal
public import Idealize.ShloMosaic.Lib.SortFacts
public import Idealize.ShloMosaic.Lib.IndicatorCount

@[expose] public section

noncomputable section

namespace Top

open Idealize.ShloMosaic

variable {n : Nat}

/-- The comparator of the row's sort: greater first. -/
def before (s : Fin n → EReal) (k k' : Fin n) : Bool := Ideal.cmp .ogt (s k) (s k') == 1#1

/-- The column that the sorted row has at a place. -/
def ord (s : Fin n → EReal) : Fin n → Fin n := sortedFrom (before s)

/-- The comparator as an inequality. -/
theorem before_eq (s : Fin n → EReal) (k k' : Fin n) : before s k k' = decide (s k' < s k) := by
  unfold before Ideal.cmp
  cases decide (s k' < s k) <;> rfl

/-- The sorted row never rises. -/
theorem falls (s : Fin n → EReal) {i j : Fin n} (h : i < j) : s (ord s j) ≤ s (ord s i) := by
  have := sortedFrom_noInversion (before s) (before s)
    (fun a b hab => by rw [before_eq, decide_eq_true_eq] at hab; rw [before_eq, decide_eq_false_iff_not]; exact not_lt.2 hab.le)
    (fun _ _ hab => hab)
    (fun a b c hab hbc => by
      rw [before_eq, decide_eq_false_iff_not, not_lt] at *
      exact hab.trans hbc) i j h
  rw [before_eq, decide_eq_false_iff_not, not_lt] at this
  exact this

/-- Exactly the first `K` places hold scores that reach the threshold, when `K` scores do. -/
theorem reaches_iff (s : Fin n → EReal) (T : EReal) (K : Nat) (hc : (Finset.univ.filter fun j => T ≤ s j).card = K) (k : Fin n) :
    T ≤ s (ord s k) ↔ k.val < K := by
  have hU : (Finset.univ.filter fun k => T ≤ s (ord s k)).card = K := by
    rw [← hc]
    refine Finset.card_bij (fun k _ => ord s k) (fun k hk => by simpa using hk) (fun a _ b _ h => sortedFrom_injective _ h) fun j hj => ?_
    obtain ⟨k, rfl⟩ := sortedFrom_surjective (before s) j
    exact ⟨k, Finset.mem_filter.2 ⟨Finset.mem_univ _, (Finset.mem_filter.1 hj).2⟩, rfl⟩
  have mono : ∀ i j : Fin n, i ≤ j → T ≤ s (ord s j) → T ≤ s (ord s i) := fun i j hij hj => by
    rcases hij.lt_or_eq with h | rfl
    · exact hj.trans (falls s h)
    · exact hj
  constructor
  · intro h
    have hsub : Finset.Iic k ⊆ Finset.univ.filter fun k => T ≤ s (ord s k) := fun i hi => by
      simpa using mono i k (by simpa using hi) h
    have := Finset.card_le_card hsub
    rw [hU, Fin.card_Iic] at this
    omega
  · intro h
    by_contra hn
    have hsub : (Finset.univ.filter fun k => T ≤ s (ord s k)) ⊆ Finset.Iio k := fun i hi => by
      rw [Finset.mem_Iio]
      by_contra hki
      exact hn (mono k i (not_lt.1 hki) (by simpa using hi))
    have := Finset.card_le_card hsub
    rw [hU, Fin.card_Iio] at this
    omega

/-- A count in words that reads 614 counts 614 scores. -/
theorem card_of_count (s : Fin 2048 → EReal) (T : EReal)
    (h : (Finset.univ : Finset (Fin 2048)).fold IntOp.addi 0#32 (fun j => BitVec.setWidth 32 (BitVec.ofBool (decide (T ≤ s j)))) = 614#32) :
    (Finset.univ.filter fun j => T ≤ s j).card = 614 := by
  rw [IndicatorCount.fold_addi_setWidth_eq_card] at h
  have hf : (Finset.univ.filter fun j => BitVec.ofBool (decide (T ≤ s j)) = 1#1) = Finset.univ.filter fun j => T ≤ s j := by
    refine Finset.filter_congr fun j _ => ?_
    by_cases hj : T ≤ s j <;> simp [hj]
  rw [hf] at h
  have hle : (Finset.univ.filter fun j => T ≤ s j).card ≤ 2048 := (Finset.card_le_univ _).trans (by simp)
  have := congrArg BitVec.toNat h
  rw [BitVec.toNat_ofNat, Nat.mod_eq_of_lt (by omega)] at this
  simpa using this

end Top
-- ==== Proof.RefTop.lean ====
/-
  The reference's sparse scores: the top scores of a row, scattered back to their columns over minus infinity.
-/
module

public import proofs.«01_k».proof.Proof.Top
public import proofs.«01_k».proof.Proof.Gen.ReferenceIdeal.Read
public import Idealize.ShloMosaic.Lib.ScatterToDense.RefScatter
public import Idealize.ShloMosaic.Lib.Pointwise

@[expose] public section

noncomputable section

namespace RefTop

open Idealize.ShloMosaic Cert.ReferenceIdeal Cert.ReferenceIdeal.Gen Cert.ReferenceIdeal.Read Top
open Idealize.ShloMosaic.ScatterToDense (GS)

variable (x0 x1 : FVec Ideal S1x2048x16x64 .f32) (h : Fin 16) (l : Fin 2048)

/-- The scores of a query row. -/
def row (j : Fin 2048) : EReal := ∑ e : Fin 64, x0 (ix4 0 l h e) * x1 (ix4 0 j h e)

/-- The row of the flattened scores that holds a head's query row. -/
def flat : Fin 32768 := ⟨h.val * 2048 + l.val, by omega⟩

/-- A place among the top scores as a place of the sorted row. -/
def place (k : Fin 614) : Fin 2048 := ⟨k.val, by omega⟩

/-- The reference's scores at an index. -/
theorem scores (j : Fin 2048) : val_main_v0 (F := Ideal) x0 x1 (ix4 0 h l j) = row x0 x1 h l j := by
  rw [val_main_v0_apply]
  refine Finset.sum_congr rfl fun e _ => congr (congrArg HMul.hMul (congrArg x0 ?_)) (congrArg x1 ?_) <;>
    (funext a; match a with | ⟨0, _⟩ => rfl | ⟨1, _⟩ => rfl | ⟨2, _⟩ => rfl | ⟨3, _⟩ => rfl)

/-- Another column of the same row. -/
theorem along (j k : Fin 2048) : Shape.Idx.along (s := S1x16x2048x2048) (ix4 0 h l j) (3 : Fin 4) k = ix4 0 h l k := by
  funext a
  match a with
  | ⟨0, _⟩ => rfl
  | ⟨1, _⟩ => rfl
  | ⟨2, _⟩ => rfl
  | ⟨3, _⟩ => rfl

/-- The place of the sort that the slice reads. -/
theorem sliced (k : Fin 614) : (fun a : Fin 4 => (⟨0 + ((ix4 (0 : Fin 1) h l k : S1x16x2048x614.Idx) (a.cast rfl)).val,
    Nat.lt_of_lt_of_le (Nat.add_lt_add_left ((ix4 (0 : Fin 1) h l k : S1x16x2048x614.Idx) _).isLt _) (sliceFits_S1x16x2048x2048_S1x16x2048x614.2 a)⟩ : Fin (S1x16x2048x2048.size a)))
    = (ix4 0 h l (place k) : S1x16x2048x2048.Idx) := by
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)

/-- The sorting permutation of a row. -/
theorem perm (x : FVec Ideal S1x16x2048x2048 .f32) (s : Fin 2048 → EReal) (hs : ∀ j, x (ix4 0 h l j) = s j) (j : Fin 2048) :
    sortedFrom (fun k k' : Fin 2048 => FloatOps.cmpfTotal (F := Ideal) (φ := .f32) .gt (x (Shape.Idx.along (s := S1x16x2048x2048) (ix4 0 h l j) (3 : Fin 4) k))
      (x (Shape.Idx.along (s := S1x16x2048x2048) (ix4 0 h l j) (3 : Fin 4) k')) == 1#1) j = ord s j := by
  unfold ord
  refine congrArg (fun b => sortedFrom b j) (funext fun k => funext fun k' => ?_)
  rw [along, along, hs, hs]
  rfl

/-- A top score. -/
theorem values (x : FVec Ideal S1x16x2048x2048 .f32) (s : Fin 2048 → EReal) (hs : ∀ j, x (ix4 0 h l j) = s j) (k : Fin 614) :
    (Host.topK S1x16x2048x614 3 (FloatOps.cmpfTotal (F := Ideal) (φ := .f32) .gt) x sliceFits_S1x16x2048x2048_S1x16x2048x614).1 (ix4 0 h l k)
      = s (ord s (place k)) := by
  refine Eq.trans (congrArg (fun i : S1x16x2048x2048.Idx => x (Shape.Idx.along (s := S1x16x2048x2048) i (3 : Fin 4) (sortedFrom (fun k k' : Fin 2048 => FloatOps.cmpfTotal (F := Ideal) (φ := .f32) .gt (x (Shape.Idx.along (s := S1x16x2048x2048) i (3 : Fin 4) k))
      (x (Shape.Idx.along (s := S1x16x2048x2048) i (3 : Fin 4) k')) == 1#1) (i 3)))) (sliced h l k)) ?_
  exact (congrArg x ((congrArg (Shape.Idx.along (s := S1x16x2048x2048) (ix4 0 h l (place k)) (3 : Fin 4)) (perm h l x s hs (place k))).trans
    (along h l _ _))).trans (hs _)

/-- The second array of a sort of two, read through the sorting permutation. -/
theorem second (x : FVec Ideal S1x16x2048x2048 .f32) (y : IVec S1x16x2048x2048 32) (i : S1x16x2048x2048.Idx) :
    (Host.sort2 S1x16x2048x2048 3 (fun l r : EReal × BitVec 32 => FloatOps.cmpfTotal (F := Ideal) (φ := .f32) .gt l.1 r.1) x y).2 i
      = y (Shape.Idx.along (s := S1x16x2048x2048) i (3 : Fin 4) (sortedFrom (fun k k' : Fin 2048 => FloatOps.cmpfTotal (F := Ideal) (φ := .f32) .gt (x (Shape.Idx.along (s := S1x16x2048x2048) i (3 : Fin 4) k))
      (x (Shape.Idx.along (s := S1x16x2048x2048) i (3 : Fin 4) k')) == 1#1) (i 3))) := rfl

/-- A top score's column, as a word. -/
theorem indices (x : FVec Ideal S1x16x2048x2048 .f32) (s : Fin 2048 → EReal) (hs : ∀ j, x (ix4 0 h l j) = s j) (k : Fin 614) :
    (Host.topK S1x16x2048x614 3 (FloatOps.cmpfTotal (F := Ideal) (φ := .f32) .gt) x sliceFits_S1x16x2048x2048_S1x16x2048x614).2 (ix4 0 h l k)
      = BitVec.ofNat 32 (ord s (place k)).val := by
  refine Eq.trans (congrArg (Host.sort2 S1x16x2048x2048 3 (fun l r : EReal × BitVec 32 => FloatOps.cmpfTotal (F := Ideal) (φ := .f32) .gt l.1 r.1) x
    (fun i => if hd : 3 < S1x16x2048x2048.rank then iotaInDim S1x16x2048x2048 32 ⟨3, hd⟩ i else 0#32)).2 (sliced h l k)) ?_
  rw [second]
  have hp : Shape.Idx.along (s := S1x16x2048x2048) (ix4 0 h l (place k)) (3 : Fin 4) (sortedFrom (fun k' k'' : Fin 2048 =>
      FloatOps.cmpfTotal (F := Ideal) (φ := .f32) .gt (x (Shape.Idx.along (s := S1x16x2048x2048) (ix4 0 h l (place k)) (3 : Fin 4) k'))
      (x (Shape.Idx.along (s := S1x16x2048x2048) (ix4 0 h l (place k)) (3 : Fin 4) k'')) == 1#1) (place k)) = ix4 0 h l (ord s (place k)) :=
    (congrArg (Shape.Idx.along (s := S1x16x2048x2048) (ix4 0 h l (place k)) (3 : Fin 4)) (perm h l x s hs (place k))).trans (along h l _ _)
  rw [dif_pos (by decide)]
  have hi : ∀ i j : S1x16x2048x2048.Idx, i = j → iotaInDim S1x16x2048x2048 32 ⟨3, by decide⟩ i = BitVec.ofNat 32 (j 3).val := fun i j e => by
    subst e; rfl
  exact (hi _ _ hp).trans (congrArg (BitVec.ofNat 32) rfl)

/-- The flattened top scores. -/
theorem v1 (k : Fin 614) : val_main_v1 (F := Ideal) x0 x1 (ix2 (flat h l) k) = row x0 x1 h l (ord (row x0 x1 h l) (place k)) := by
  rw [val_main_v1_apply]
  have : idx_main_v1 (ix2 (flat h l) k) = ix4 0 h l k := by
    funext a
    match a with
    | ⟨0, _⟩ => rfl
    | ⟨1, _⟩ => exact Fin.ext (by show ((h.val * 2048 + l.val) * 614 + k.val) / 1257472 % 16 = h.val; omega)
    | ⟨2, _⟩ => exact Fin.ext (by show ((h.val * 2048 + l.val) * 614 + k.val) / 614 % 2048 = l.val; omega)
    | ⟨3, _⟩ => exact Fin.ext (by show ((h.val * 2048 + l.val) * 614 + k.val) % 614 = k.val; omega)
  rw [this]
  exact values h l _ _ (scores x0 x1 h l) k

/-- The flattened columns of the top scores. -/
theorem v2 (k : Fin 614) : val_main_v2 (F := Ideal) x0 x1 (ix2 (flat h l) k) = BitVec.ofNat 32 (ord (row x0 x1 h l) (place k)).val := by
  rw [val_main_v2_apply]
  have : idx_main_v2 (ix2 (flat h l) k) = ix4 0 h l k := by
    funext a
    match a with
    | ⟨0, _⟩ => rfl
    | ⟨1, _⟩ => exact Fin.ext (by show ((h.val * 2048 + l.val) * 614 + k.val) / 1257472 % 16 = h.val; omega)
    | ⟨2, _⟩ => exact Fin.ext (by show ((h.val * 2048 + l.val) * 614 + k.val) / 614 % 2048 = l.val; omega)
    | ⟨3, _⟩ => exact Fin.ext (by show ((h.val * 2048 + l.val) * 614 + k.val) % 614 = k.val; omega)
  rw [this]
  exact indices h l _ _ (scores x0 x1 h l) k

/-- The first index of an update is its row. -/
theorem token (i : Fin 32768) (k : Fin 614) : val_main_v19 (F := Ideal) x0 x1 (ix3 i k (0 : Fin 2)) = BitVec.ofNat 32 i.val := by
  have : val_main_v19 (F := Ideal) x0 x1 (ix3 i k (0 : Fin 2)) = val_main_v17 (F := Ideal) (ix3 i k 0) := by
    unfold val_main_v19
    generalize val_main_v17 (F := Ideal) = y
    generalize val_main_v18 (F := Ideal) x0 x1 = z
    pointwise
  rw [this, val_main_v17_apply, val_main_v16_apply, val_main_v10_apply, val_main_v7_apply, val_main_v6_apply, val_main_c_apply, val_main_v5_apply,
    val_main_v4_apply]
  refine Routing.wrap_of_lt _ _ ?_
  show (BitVec.ofNat 32 i.val).toNat < 2 ^ 31
  rw [BitVec.toNat_ofNat]
  have := i.isLt
  omega

/-- The second index of an update is its column. -/
theorem column (k : Fin 614) : val_main_v19 (F := Ideal) x0 x1 (ix3 (flat h l) k (1 : Fin 2)) = BitVec.ofNat 32 (ord (row x0 x1 h l) (place k)).val := by
  have : val_main_v19 (F := Ideal) x0 x1 (ix3 (flat h l) k (1 : Fin 2)) = val_main_v18 (F := Ideal) x0 x1 (ix3 (flat h l) k 0) := by
    unfold val_main_v19
    generalize val_main_v17 (F := Ideal) = y
    generalize val_main_v18 (F := Ideal) x0 x1 = z
    pointwise
  rw [this, val_main_v18_apply, val_main_v15_apply, val_main_v12_apply, val_main_v11_apply, val_main_c_1_apply]
  have hi : idx_main_v18 (ix3 (flat h l) k 0) = ix2 (flat h l) k := by
    funext a
    match a with
    | ⟨0, _⟩ => rfl
    | ⟨1, _⟩ => rfl
  rw [hi, v2]
  refine Routing.wrap_of_lt _ _ ?_
  show (BitVec.ofNat 32 _).toNat < 2 ^ 31
  rw [BitVec.toNat_ofNat]
  have := (ord (row x0 x1 h l) (place k)).isLt
  omega

/-- The sparse scores of a row whose threshold is reached by exactly 614 scores: those scores, minus infinity elsewhere. -/
theorem sparse (T : EReal) (hc : (Finset.univ.filter fun j => T ≤ row x0 x1 h l j).card = 614) (j : Fin 2048) :
    val_main_v21 (F := Ideal) x0 x1 (ix4 0 h l j) = if T ≤ row x0 x1 h l j then row x0 x1 h l j else ⊥ := by
  have hi : idx_main_v21 (ix4 0 h l j) = ix2 (flat h l) j := by
    funext a
    match a with
    | ⟨0, _⟩ => exact Fin.ext (by show (((0 * 16 + h.val) * 2048 + l.val) * 2048 + j.val) / 2048 = h.val * 2048 + l.val; omega)
    | ⟨1, _⟩ => exact Fin.ext (by show (((0 * 16 + h.val) * 2048 + l.val) * 2048 + j.val) % 2048 = j.val; omega)
  rw [val_main_v21_apply, hi]
  unfold val_main_v20
  refine (ScatterToDense.scatter_eq_GS (T := 32768) (C := 2048) (K := 614) scatter_S32768x2048_S32768x614x2_S32768x614_n_01_01_2 rfl rfl rfl (by decide) (by decide)
    (val_main_v3 (F := Ideal)) (val_main_v19 (F := Ideal) x0 x1) (val_main_v1 (F := Ideal) x0 x1)
    (fun i k => if hk : k < 614 then val_main_v19 (F := Ideal) x0 x1 (ix3 i ⟨k, hk⟩ 1) else 0#32)
    (fun i k => if hk : k < 614 then val_main_v1 (F := Ideal) x0 x1 (ix2 i ⟨k, hk⟩) else ⊥)
    (token x0 x1) (fun i k => by rw [dif_pos k.isLt]; rfl) (fun i k => by rw [dif_pos k.isLt]; rfl) (flat h l) j).trans ?_
  unfold GS
  have hword : ∀ k : Fin 614, (val_main_v19 (F := Ideal) x0 x1 (ix3 (flat h l) k (1 : Fin 2))).toNat = (ord (row x0 x1 h l) (place k)).val := fun k => by
    rw [column, BitVec.toNat_ofNat]
    have := (ord (row x0 x1 h l) (place k)).isLt
    omega
  rcases LaneScatter.lastHit_cases (fun k => j.val = (if hk : k < 614 then val_main_v19 (F := Ideal) x0 x1 (ix3 (flat h l) ⟨k, hk⟩ 1) else 0#32).toNat)
    (fun k => if hk : k < 614 then val_main_v1 (F := Ideal) x0 x1 (ix2 (flat h l) ⟨k, hk⟩) else (⊥ : EReal))
    (val_main_v3 (F := Ideal) (ix2 (flat h l) j)) 614 with ⟨k, hk, hh, -, hv⟩ | ⟨hn, hv⟩
  · refine hv.trans ?_
    rw [dif_pos hk] at hh ⊢
    rw [hword] at hh
    have hj : ord (row x0 x1 h l) (place ⟨k, hk⟩) = j := Fin.ext hh.symm
    rw [v1, hj, if_pos]
    rw [← hj]
    exact (reaches_iff _ T 614 hc _).2 hk
  · refine hv.trans ?_
    rw [if_neg]
    · exact (by simp [Ideal.ofBits, Ideal.ieee] : Ideal.ofBits .f32 0xFF800000#32 = ⊥)
    · intro hT
      obtain ⟨k, hk⟩ := sortedFrom_surjective (before (row x0 x1 h l)) j
      have hk' : k.val < 614 := (reaches_iff _ T 614 hc k).1 (by unfold ord; rw [hk]; exact hT)
      refine hn k.val hk' ?_
      rw [dif_pos hk', hword]
      exact congrArg Fin.val hk.symm

end RefTop
-- ==== Proof.Row.lean ====
/-
  One row of scores, and the search for its threshold as both the kernel and the mask run it: the bracket, its update,
  the next probe, the last adjustment. Everything here is over extended reals and mentions no tensor.
-/
module

public import Idealize.ShloMosaic.Lib.Pointwise

@[expose] public section

noncomputable section

namespace Row

open Idealize.ShloMosaic

/-- The number of scores a row keeps, as the programs spell it. -/
def kk : EReal := Ideal.ofBits .f32 0x44198000#32

/-- How many of a row's scores reach `t`, counted in words and converted. -/
def cnt (s : Fin 2048 → EReal) (t : EReal) : EReal :=
  FloatOps.sitofp (F := Ideal) .f32 ((Finset.univ : Finset (Fin 2048)).fold IntOp.addi 0#32
    fun j => BitVec.setWidth 32 (BitVec.ofBool (decide (t ≤ s j))))

/-- The bracket of a search: a threshold reached by too many scores with its count, one reached by too few with its. -/
structure St where
  tlo : EReal
  clo : EReal
  thi : EReal
  chi : EReal

/-- The bracket narrowed by a probe `t` that `c` scores reach. -/
def upd (t c : EReal) (σ : St) : St where
  tlo := bif decide (kk ≤ c) && decide (σ.tlo < t) then t else σ.tlo
  clo := bif decide (kk ≤ c) && decide (σ.tlo < t) then c else σ.clo
  thi := bif (!decide (kk ≤ c)) && decide (t < σ.thi) then t else σ.thi
  chi := bif (!decide (kk ≤ c)) && decide (t < σ.thi) then c else σ.chi

/-- The chord's probe, kept inside the bracket. -/
def chord (σ : St) : EReal :=
  min σ.thi (max σ.tlo (σ.tlo + Ideal.div (σ.clo - kk + Ideal.ofBits .f32 0x3F000000#32)
    (max (σ.clo - σ.chi) (Ideal.ofBits .f32 0x3089705F#32)) * (σ.thi - σ.tlo)))

/-- The probe a little below a bracket whose lower end is not set. -/
def below (inv : EReal) (σ : St) : EReal := σ.thi + (σ.chi - kk - Ideal.ofBits .f32 0x40C00000#32) * inv

/-- The probe a little above a bracket whose upper end is not set. -/
def above (inv : EReal) (σ : St) : EReal := σ.tlo + (σ.clo - kk + Ideal.ofBits .f32 0x40C00000#32) * inv

/-- The next probe. -/
def probe (inv : EReal) (σ : St) : EReal :=
  bif decide (σ.tlo < Ideal.ofBits .f32 0xEFA18F08#32) then below inv σ
  else bif decide (Ideal.ofBits .f32 0x6FA18F08#32 < σ.thi) then above inv σ else chord σ

/-- One round of the search. -/
def step (s : Fin 2048 → EReal) (inv : EReal) (σ : St) : St := upd (probe inv σ) (cnt s (probe inv σ)) σ

/-- The least score that reaches `t`. -/
def m1 (s : Fin 2048 → EReal) (t : EReal) : EReal :=
  (Finset.univ : Finset (Fin 2048)).fold min ⊤ fun j => bif decide (t ≤ s j) then s j else ⊤

/-- The greatest score that does not reach `t`. -/
def m2 (s : Fin 2048 → EReal) (t : EReal) : EReal :=
  (Finset.univ : Finset (Fin 2048)).fold max ⊥ fun j => bif decide (t ≤ s j) then ⊥ else s j

/-- The least score above `m`. -/
def next (s : Fin 2048 → EReal) (m : EReal) : EReal :=
  (Finset.univ : Finset (Fin 2048)).fold min ⊤ fun j => bif decide (m < s j) then s j else ⊤

/-- The last probe moved by one score where its count is not exact. -/
def tAdj (s : Fin 2048 → EReal) (t c : EReal) : EReal :=
  bif decide (kk < c) then next s (m1 s t) else bif decide (c < kk) then m2 s t else t

/-- The count the moved probe is taken to have. -/
def cAdj (c : EReal) : EReal :=
  c + (bif decide (c < kk) then Ideal.ofBits .f32 0x3F800000#32 else Ideal.ofBits .f32 0x00000000#32)
    - (bif decide (kk < c) then Ideal.ofBits .f32 0x3F800000#32 else Ideal.ofBits .f32 0x00000000#32)

/-- The end of the bracket whose count is nearer. -/
def pick (σ : St) : EReal := bif decide (σ.clo - kk ≤ kk - σ.chi) then σ.tlo else σ.thi

/-- The end of the search: the fifth probe, its adjustment, and the choice. -/
def finish (s : Fin 2048 → EReal) (t : EReal) (σ : St) : EReal :=
  pick (upd (tAdj s t (cnt s t)) (cAdj (cnt s t)) (upd t (cnt s t) σ))

/-- The bracket before any probe. -/
def start : St where
  tlo := Ideal.ofBits .f32 0xF149F2CA#32
  clo := Ideal.ofBits .f32 0x45000000#32
  thi := Ideal.ofBits .f32 0x7149F2CA#32
  chi := Ideal.ofBits .f32 0x00000000#32

/-- The second probe, from the first and its count. -/
def t1 (s : Fin 2048 → EReal) (inv t : EReal) : EReal := t + (cnt s t - kk) * inv

/-- The bracket after the first two probes. -/
def two (s : Fin 2048 → EReal) (inv t : EReal) (σ : St) : St :=
  upd (t1 s inv t) (cnt s (t1 s inv t)) (upd t (cnt s t) σ)

/-- The rest of the search from a bracket after one of the two chord rounds. -/
def fin1 (s : Fin 2048 → EReal) (inv : EReal) (σ : St) : EReal :=
  finish s (probe inv (step s inv σ)) (step s inv σ)

/-- The reciprocal density the probes are scaled by. -/
def inv (sd : EReal) : EReal := sd * Ideal.ofBits .f32 0x3AB81194#32

/-- The threshold the search ends on. -/
def thr (s : Fin 2048 → EReal) (mu sd : EReal) : EReal :=
  fin1 s (inv sd) (step s (inv sd) (two s (inv sd) (mu + Ideal.ofBits .f32 0x3F063F1D#32 * sd) start))

/-- The kernel's unnormalised weight of a score: the exponential of its scaled distance to a fixed point, zero below the
    threshold. -/
def wt (s : Fin 2048 → EReal) (mu sd t : EReal) (j : Fin 2048) : EReal :=
  bif decide (t ≤ s j) then
    Ideal.exp ((s j - (mu + Ideal.ofBits .f32 0x40800000#32 * sd)) * Ideal.ofBits .f32 0x3E000000#32)
  else 0

/-- A choice by a one-bit word made from a truth value. -/
theorem select_ofBool {α : Type} (b : Bool) (x y : α) : Scalar.select (BitVec.ofBool b) x y = bif b then x else y := by
  cases b <;> rfl

/-- Conjunction of one-bit words made from truth values. -/
theorem andi_ofBool (a b : Bool) : IntOp.andi (BitVec.ofBool a) (BitVec.ofBool b) = BitVec.ofBool (a && b) := by
  cases a <;> cases b <;> rfl

/-- Flipping a one-bit word made from a truth value. -/
theorem xori_ofBool (a : Bool) : IntOp.xori (BitVec.ofBool a) 1#1 = BitVec.ofBool (!a) := by
  cases a <;> rfl

/-- The programs' large negative bound, once by its own pattern and once by a subtraction. -/
theorem zero_sub_bound : (0 : EReal) - Ideal.ofBits .f32 0x7149F2CA#32 = Ideal.ofBits .f32 0xF149F2CA#32 := by
  simp [Ideal.ofBits, Ideal.ieee, -EReal.coe_mul, ← EReal.coe_neg]

/-- Zero minus positive infinity. -/
theorem zero_sub_top : (0 : EReal) - ⊤ = ⊥ := by simp

/-- The pattern of positive infinity. -/
theorem ofBits_top : Ideal.ofBits .f32 0x7F800000#32 = ⊤ := by
  simp [Ideal.ofBits, Ideal.ieee]

/-- The pattern of negative infinity. -/
theorem ofBits_bot : Ideal.ofBits .f32 0xFF800000#32 = ⊥ := by
  simp [Ideal.ofBits, Ideal.ieee]

end Row
-- ==== Proof.Half.lean ====
/-
  The search of the first half of the kernel's tile, read at one row: each group of its values is the row's search
  (Row.lean) at that group's place.
-/
module

public import proofs.«01_k».proof.Proof.Row
public import proofs.«01_k».proof.Proof.Gen.KernelIdeal.Skeleton

@[expose] public section

namespace Half

open Idealize.ShloMosaic Cert.KernelIdeal Cert.KernelIdeal.Gen Row

/-- A column of a half tile holds `x` at row `r`. -/
abbrev At (v : FVec Ideal S1024x1 .f32) (r : Fin 1024) (x : EReal) : Prop := v (ix2 r 0) = x

/-- Four columns of a half tile hold a bracket at row `r`. -/
structure AtSt (a b c d : FVec Ideal S1024x1 .f32) (r : Fin 1024) (σ : St) : Prop where
  tlo : a (ix2 r 0) = σ.tlo
  clo : b (ix2 r 0) = σ.clo
  thi : c (ix2 r 0) = σ.thi
  chi : d (ix2 r 0) = σ.chi

variable (r : Fin 1024) (s : Fin 2048 → EReal) (σ : St) (mu sd inv t : EReal)

/-- The first two probes. -/
theorem part2 (v9 : FVec Ideal S1024x2048 .f32) (v16 v27 v29 : FVec Ideal S1024x1 .f32)
    (hs : ∀ j, v9 (ix2 r j) = s j) (hmu : At v16 r mu) (hsd : At v27 r sd) (hinv : At v29 r inv) :
    AtSt (k0_pay27 v9 v16 v27 v29 (Scalar.ofBits .f32 0x3F063F1D#32)) (k0_pay28 v9 v16 v27 v29 (Scalar.ofBits .f32 0x3F063F1D#32)) (k0_pay29 v9 v16 v27 v29 (Scalar.ofBits .f32 0x3F063F1D#32))
      (k0_pay30 v9 v16 v27 v29 (Scalar.ofBits .f32 0x3F063F1D#32)) r (two s inv (mu + Ideal.ofBits .f32 0x3F063F1D#32 * sd) start) := by
  constructor <;>
  · unfold_payloads
    pointwise [hs, hmu, hsd, hinv, two, upd, t1, cnt, kk, start, select_ofBool, andi_ofBool, xori_ofBool, zero_sub_bound]

/-- One chord round. -/
theorem part3 (v9 : FVec Ideal S1024x2048 .f32) (v29 a b c d : FVec Ideal S1024x1 .f32)
    (hs : ∀ j, v9 (ix2 r j) = s j) (hinv : At v29 r inv) (h : AtSt a b c d r σ) :
    AtSt (k0_pay37 v9 v29 a b c d k0_pay31) (k0_pay38 v9 v29 a b c d k0_pay31) (k0_pay39 v9 v29 a b c d k0_pay31)
      (k0_pay40 v9 v29 a b c d k0_pay31) r (step s inv σ) := by
  constructor <;>
  · unfold_payloads
    pointwise [hs, hinv, h.tlo, h.clo, h.thi, h.chi, step, probe, below, above, chord, upd, cnt, kk, select_ofBool, andi_ofBool, xori_ofBool]

/-- The second chord round. -/
theorem part4 (v9 : FVec Ideal S1024x2048 .f32) (v29 a b c d : FVec Ideal S1024x1 .f32)
    (hs : ∀ j, v9 (ix2 r j) = s j) (hinv : At v29 r inv) (h : AtSt a b c d r σ) :
    AtSt (k0_pay47 v9 v29 a b c d k0_pay41) (k0_pay48 v9 v29 a b c d k0_pay41) (k0_pay49 v9 v29 a b c d k0_pay41)
      (k0_pay50 v9 v29 a b c d k0_pay41) r (step s inv σ) := by
  constructor <;>
  · unfold_payloads
    pointwise [hs, hinv, h.tlo, h.clo, h.thi, h.chi, step, probe, below, above, chord, upd, cnt, kk, select_ofBool, andi_ofBool, xori_ofBool]

/-- The fifth probe. -/
theorem part5_tn (v29 a b c d : FVec Ideal S1024x1 .f32) (hinv : At v29 r inv) (h : AtSt a b c d r σ) :
    At (k0_pay52 v29 a b c d k0_pay51) r (probe inv σ) := by
  unfold At; unfold_payloads
  pointwise [hinv, h.tlo, h.clo, h.thi, h.chi, probe, below, above, chord, kk, select_ofBool]

/-- The fifth probe's count. -/
theorem part5_cn (v9 : FVec Ideal S1024x2048 .f32) (v29 a b c d : FVec Ideal S1024x1 .f32)
    (hs : ∀ j, v9 (ix2 r j) = s j) (hinv : At v29 r inv) (h : AtSt a b c d r σ) :
    At (k0_pay54 v9 v29 a b c d k0_pay51) r (cnt s (probe inv σ)) := by
  unfold At k0_pay54 k0_pay53
  pointwise [hs, part5_tn r σ inv v29 a b c d hinv h, cnt]

/-- The greatest score the fifth probe leaves out. -/
theorem part5_m2 (v9 : FVec Ideal S1024x2048 .f32) (v29 a b c d : FVec Ideal S1024x1 .f32)
    (hs : ∀ j, v9 (ix2 r j) = s j) (hinv : At v29 r inv) (h : AtSt a b c d r σ) :
    At (k0_pay55 v9 v29 a b c d k0_pay51) r (m2 s (probe inv σ)) := by
  unfold At k0_pay55 k0_pay53
  pointwise [hs, part5_tn r σ inv v29 a b c d hinv h, m2, select_ofBool, ofBits_top, ofBits_bot, zero_sub_top]

/-- The least score the fifth probe takes. -/
theorem part5_m1 (v9 : FVec Ideal S1024x2048 .f32) (v29 a b c d : FVec Ideal S1024x1 .f32) (j : Fin 2048)
    (hs : ∀ j, v9 (ix2 r j) = s j) (hinv : At v29 r inv) (h : AtSt a b c d r σ) :
    k0_pay56 v9 v29 a b c d k0_pay51 (ix2 r j) = m1 s (probe inv σ) := by
  unfold k0_pay56 k0_pay53
  pointwise [hs, part5_tn r σ inv v29 a b c d hinv h, m1, select_ofBool, ofBits_top, ofBits_bot, zero_sub_top]

/-- The bracket after the adjusted probe, and the choice between its ends. -/
theorem part6 (v9 v218 : FVec Ideal S1024x2048 .f32) (a b c d v202 v208 v217 : FVec Ideal S1024x1 .f32)
    (hs : ∀ j, v9 (ix2 r j) = s j) (h : AtSt a b c d r σ) (htn : At v202 r t) (hcn : At v208 r (cnt s t))
    (hm2 : At v217 r (m2 s t)) (hm1 : ∀ j, v218 (ix2 r j) = m1 s t) :
    At (k0_pay69 v9 a v202 v208 v217 v218) r (upd (tAdj s t (cnt s t)) (cAdj (cnt s t)) (upd t (cnt s t) σ)).tlo ∧
    At (k0_pay70 v9 c v202 v208 v217 v218) r (upd (tAdj s t (cnt s t)) (cAdj (cnt s t)) (upd t (cnt s t) σ)).thi ∧
    k0_pay71 v9 a b c d v202 v208 v217 v218 (ix2 r 0) = BitVec.ofBool (decide
      ((upd (tAdj s t (cnt s t)) (cAdj (cnt s t)) (upd t (cnt s t) σ)).clo - kk
        ≤ kk - (upd (tAdj s t (cnt s t)) (cAdj (cnt s t)) (upd t (cnt s t) σ)).chi)) := by
  generalize hC : cnt s t = C at *
  generalize hM1 : m1 s t = M1 at *
  generalize hM2 : m2 s t = M2 at *
  refine ⟨?_, ?_, ?_⟩ <;>
  · unfold_payloads
    pointwise [hs, h.tlo, h.clo, h.thi, h.chi, htn, hcn, hm2, hm1, hM1, hM2, At, tAdj, cAdj, next, upd, kk, select_ofBool,
      andi_ofBool, xori_ofBool, ofBits_top]

/-- The half tile's result at a row and a lane, from the two ends, the choice and the value block. -/
theorem part7 (v9 : FVec Ideal S1024x2048 .f32) (v13 : Vec Ideal S2048x128 .bf16) (v16 v27 v256 v258 : FVec Ideal S1024x1 .f32)
    (v264 : IVec S1024x1 1) (T : EReal) (vv : Fin 2048 → Fin 128 → EReal)
    (hs : ∀ j, v9 (ix2 r j) = s j) (hmu : At v16 r mu) (hsd : At v27 r sd)
    (hT : Scalar.select (v264 (ix2 r 0)) (v256 (ix2 r 0)) (v258 (ix2 r 0)) = T)
    (hv : ∀ j e, v13 (ix2 j e) = vv j e) (e : Fin 64) :
    k0_pay72 v9 v13 v16 v27 v256 v258 v264 (ix3 0 r e)
      = Ideal.div (∑ j, wt s mu sd T j * vv j ⟨e.val, by omega⟩) (∑ j, wt s mu sd T j * vv j 64) := by
  unfold_payloads
  pointwise [hs, hmu, hsd, hT, hv, wt, select_ofBool, dot_S1024x2048_S2048x128_S1024x128_1_0_0_1_n_n]

end Half
-- ==== Proof.HalfB.lean ====
/-
  The search of the second half of the kernel's tile, read at one row, and that half's result: the same row search as the
  first half's, cut into groups of values at other places.
-/
module

public import proofs.«01_k».proof.Proof.Half

@[expose] public section

namespace HalfB

open Idealize.ShloMosaic Cert.KernelIdeal Cert.KernelIdeal.Gen Row Half

variable (r : Fin 1024) (s : Fin 2048 → EReal) (σ : St) (mu sd inv t : EReal)

/-- The values one round hands to the next beside the bracket: whether each end is still unset, and the difference of the
    counts. -/
structure AtPre (x y : IVec S1024x1 1) (z : FVec Ideal S1024x1 .f32) (r : Fin 1024) (σ : St) : Prop where
  lo : x (ix2 r 0) = BitVec.ofBool (decide (σ.tlo < Ideal.ofBits .f32 0xEFA18F08#32))
  hi : y (ix2 r 0) = BitVec.ofBool (decide (Ideal.ofBits .f32 0x6FA18F08#32 < σ.thi))
  diff : z (ix2 r 0) = σ.clo - σ.chi

/-- The first two probes: the bracket. -/
theorem part8 (v10 : FVec Ideal S1024x2048 .f32) (v302 v305 : FVec Ideal S1024x1 .f32) (v308 : IVec S1024x2048 32)
    (hs : ∀ j, v10 (ix2 r j) = s j) (hinv : At v302 r inv) (ht : At v305 r t)
    (hm : ∀ j, v308 (ix2 r j) = BitVec.setWidth 32 (BitVec.ofBool (decide (t ≤ s j)))) :
    AtSt (k0_pay91 v10 v302 v305 v308) (k0_pay92 v10 v302 v305 v308) (k0_pay93 v10 v302 v305 v308)
      (k0_pay94 v10 v302 v305 v308) r (two s inv t start) := by
  constructor <;>
  · unfold_payloads
    pointwise [hs, hinv, ht, hm, two, upd, t1, cnt, kk, start, select_ofBool, andi_ofBool, xori_ofBool, zero_sub_bound]

/-- The first two probes: the values prepared for the next round. -/
theorem part8_pre (v10 : FVec Ideal S1024x2048 .f32) (v302 v305 : FVec Ideal S1024x1 .f32) (v308 : IVec S1024x2048 32)
    (h : AtSt (k0_pay91 v10 v302 v305 v308) (k0_pay92 v10 v302 v305 v308) (k0_pay93 v10 v302 v305 v308)
      (k0_pay94 v10 v302 v305 v308) r σ) :
    AtPre (k0_pay95 v10 v302 v305 v308) (k0_pay96 v10 v302 v305 v308) (k0_pay97 v10 v302 v305 v308) r σ := by
  constructor
  · unfold k0_pay95; pointwise [h.tlo]
  · unfold k0_pay96; pointwise [h.thi]
  · unfold k0_pay97; pointwise [h.clo, h.chi]

/-- One chord round: the bracket. -/
theorem part9 (v10 : FVec Ideal S1024x2048 .f32) (v302 a b c d z : FVec Ideal S1024x1 .f32) (x y : IVec S1024x1 1)
    (hs : ∀ j, v10 (ix2 r j) = s j) (hinv : At v302 r inv) (h : AtSt a b c d r σ) (hp : AtPre x y z r σ) :
    AtSt (k0_pay103 v10 v302 a b c d x y z (Scalar.ofBits .f32 0x3089705F#32))
      (k0_pay104 v10 v302 a b c d x y z (Scalar.ofBits .f32 0x3089705F#32))
      (k0_pay105 v10 v302 a b c d x y z (Scalar.ofBits .f32 0x3089705F#32))
      (k0_pay106 v10 v302 a b c d x y z (Scalar.ofBits .f32 0x3089705F#32)) r (step s inv σ) := by
  constructor <;>
  · unfold_payloads
    pointwise [hs, hinv, h.tlo, h.clo, h.thi, h.chi, hp.lo, hp.hi, hp.diff, step, probe, below, above, chord, upd, cnt, kk,
      select_ofBool, andi_ofBool, xori_ofBool]

/-- One chord round: the values prepared for the next. -/
theorem part9_pre (v10 : FVec Ideal S1024x2048 .f32) (v302 a b c d z : FVec Ideal S1024x1 .f32) (x y : IVec S1024x1 1) (w : Ideal .f32)
    (h : AtSt (k0_pay103 v10 v302 a b c d x y z w) (k0_pay104 v10 v302 a b c d x y z w)
      (k0_pay105 v10 v302 a b c d x y z w) (k0_pay106 v10 v302 a b c d x y z w) r σ) :
    AtPre (k0_pay107 v10 v302 a b c d x y z w) (k0_pay108 v10 v302 a b c d x y z w) (k0_pay109 v10 v302 a b c d x y z w) r σ := by
  constructor
  · unfold k0_pay107; pointwise [h.tlo]
  · unfold k0_pay108; pointwise [h.thi]
  · unfold k0_pay109; pointwise [h.clo, h.chi]

/-- The second chord round: the bracket. -/
theorem part10 (v10 : FVec Ideal S1024x2048 .f32) (v302 a b c d z : FVec Ideal S1024x1 .f32) (x y : IVec S1024x1 1)
    (hs : ∀ j, v10 (ix2 r j) = s j) (hinv : At v302 r inv) (h : AtSt a b c d r σ) (hp : AtPre x y z r σ) :
    AtSt (k0_pay115 v10 v302 a b c d x y z (Scalar.ofBits .f32 0x3089705F#32))
      (k0_pay116 v10 v302 a b c d x y z (Scalar.ofBits .f32 0x3089705F#32))
      (k0_pay117 v10 v302 a b c d x y z (Scalar.ofBits .f32 0x3089705F#32))
      (k0_pay118 v10 v302 a b c d x y z (Scalar.ofBits .f32 0x3089705F#32)) r (step s inv σ) := by
  constructor <;>
  · unfold_payloads
    pointwise [hs, hinv, h.tlo, h.clo, h.thi, h.chi, hp.lo, hp.hi, hp.diff, step, probe, below, above, chord, upd, cnt, kk,
      select_ofBool, andi_ofBool, xori_ofBool]

/-- The second chord round: the values prepared for the fifth probe. -/
theorem part10_pre (v10 : FVec Ideal S1024x2048 .f32) (v302 a b c d z : FVec Ideal S1024x1 .f32) (x y : IVec S1024x1 1) (w : Ideal .f32)
    (h : AtSt (k0_pay115 v10 v302 a b c d x y z w) (k0_pay116 v10 v302 a b c d x y z w)
      (k0_pay117 v10 v302 a b c d x y z w) (k0_pay118 v10 v302 a b c d x y z w) r σ) :
    AtPre (k0_pay119 v10 v302 a b c d x y z w) (k0_pay120 v10 v302 a b c d x y z w) (k0_pay121 v10 v302 a b c d x y z w) r σ := by
  constructor
  · unfold k0_pay119; pointwise [h.tlo]
  · unfold k0_pay120; pointwise [h.thi]
  · unfold k0_pay121; pointwise [h.clo, h.chi]

/-- The fifth probe. -/
theorem part11_tn (v302 a b c d z : FVec Ideal S1024x1 .f32) (x y : IVec S1024x1 1)
    (hinv : At v302 r inv) (h : AtSt a b c d r σ) (hp : AtPre x y z r σ) :
    At (k0_pay122 v302 a b c d x y z (Scalar.ofBits .f32 0x3089705F#32)) r (probe inv σ) := by
  unfold At; unfold_payloads
  pointwise [hinv, h.tlo, h.clo, h.thi, h.chi, hp.lo, hp.hi, hp.diff, probe, below, above, chord, kk, select_ofBool]

/-- The fifth probe's count. -/
theorem part11_cn (v10 : FVec Ideal S1024x2048 .f32) (v302 a b c d z : FVec Ideal S1024x1 .f32) (x y : IVec S1024x1 1)
    (hs : ∀ j, v10 (ix2 r j) = s j) (hinv : At v302 r inv) (h : AtSt a b c d r σ) (hp : AtPre x y z r σ) :
    At (k0_pay124 v10 v302 a b c d x y z (Scalar.ofBits .f32 0x3089705F#32)) r (cnt s (probe inv σ)) := by
  have ht := part11_tn r σ inv v302 a b c d z x y hinv h hp
  unfold At k0_pay124 k0_pay123
  generalize k0_pay122 v302 a b c d x y z (Scalar.ofBits .f32 0x3089705F#32) = T at ht ⊢
  pointwise [hs, ht, cnt]

/-- The greatest score the fifth probe leaves out. -/
theorem part11_m2 (v10 : FVec Ideal S1024x2048 .f32) (v302 a b c d z : FVec Ideal S1024x1 .f32) (x y : IVec S1024x1 1)
    (hs : ∀ j, v10 (ix2 r j) = s j) (hinv : At v302 r inv) (h : AtSt a b c d r σ) (hp : AtPre x y z r σ) :
    At (k0_pay125 v10 v302 a b c d x y z (Scalar.ofBits .f32 0x3089705F#32)) r (m2 s (probe inv σ)) := by
  have ht := part11_tn r σ inv v302 a b c d z x y hinv h hp
  unfold At k0_pay125 k0_pay123
  generalize k0_pay122 v302 a b c d x y z (Scalar.ofBits .f32 0x3089705F#32) = T at ht ⊢
  pointwise [hs, ht, m2, select_ofBool, ofBits_top, ofBits_bot, zero_sub_top]

/-- The least score above the least one the fifth probe takes. -/
theorem part11_up (v10 : FVec Ideal S1024x2048 .f32) (v302 a b c d z : FVec Ideal S1024x1 .f32) (x y : IVec S1024x1 1)
    (hs : ∀ j, v10 (ix2 r j) = s j) (hinv : At v302 r inv) (h : AtSt a b c d r σ) (hp : AtPre x y z r σ) :
    k0_pay126 v10 v302 a b c d x y z (Scalar.ofBits .f32 0x3089705F#32) (ix1 r) = next s (m1 s (probe inv σ)) := by
  have ht := part11_tn r σ inv v302 a b c d z x y hinv h hp
  unfold k0_pay126 k0_pay123
  generalize k0_pay122 v302 a b c d x y z (Scalar.ofBits .f32 0x3089705F#32) = T at ht ⊢
  pointwise [hs, ht, m1, next, select_ofBool, ofBits_top, ofBits_bot, zero_sub_top]

/-- The threshold the half's search ends on, at every score of the row. -/
theorem part12 (a b c d v475 v481 v490 : FVec Ideal S1024x1 .f32) (v495 : FVec Ideal S1024 .f32) (j : Fin 2048)
    (h : AtSt a b c d r σ) (htn : At v475 r t) (hcn : At v481 r (cnt s t)) (hm2 : At v490 r (m2 s t))
    (hup : v495 (ix1 r) = next s (m1 s t)) :
    k0_pay128 a b c d v475 v481 v490 v495 (ix2 r j) = finish s t σ := by
  unfold finish tAdj
  generalize cnt s t = C at *
  generalize next s (m1 s t) = N at *
  generalize m2 s t = M2 at *
  unfold_payloads
  pointwise [h.tlo, h.clo, h.thi, h.chi, htn, hcn, hm2, hup, At, cAdj, upd, pick, kk, select_ofBool,
      andi_ofBool, xori_ofBool, ofBits_top]

/-- The half tile's result at a row and a lane. -/
theorem part13 (v10 v542 : FVec Ideal S1024x2048 .f32) (v13 : Vec Ideal S2048x128 .bf16) (v289 v300 : FVec Ideal S1024x1 .f32)
    (T : EReal) (vv : Fin 2048 → Fin 128 → EReal)
    (hs : ∀ j, v10 (ix2 r j) = s j) (hmu : At v289 r mu) (hsd : At v300 r sd)
    (hT : ∀ j, v542 (ix2 r j) = T) (hv : ∀ j e, v13 (ix2 j e) = vv j e) (e : Fin 64) :
    k0_pay1 v10 v13 (k0_pay127 v289 v300) v542 (ix3 0 r e)
      = Ideal.div (∑ j, wt s mu sd T j * vv j ⟨e.val, by omega⟩) (∑ j, wt s mu sd T j * vv j 64) := by
  unfold_payloads
  pointwise [hs, hmu, hsd, hT, hv, wt, select_ofBool, dot_S1024x2048_S2048x128_S1024x128_1_0_0_1_n_n]

end HalfB
-- ==== Proof.Moments.lean ====
/-
  The kernel's scores, its moments of a row and its shared blocks, read at an index: the Gram matrix and the column sums of
  the keys, and the value block with its columns of ones.
-/
module

public import proofs.«01_k».proof.Proof.Half

@[expose] public section

namespace Moments

open Idealize.ShloMosaic Cert.KernelIdeal Cert.KernelIdeal.Gen Row Half

/-- A row's mean score from the column sums of the keys. -/
noncomputable def muK (q ks : Fin 64 → EReal) : EReal := (∑ e, q e * ks e) * Ideal.ofBits .f32 0x3A000000#32

/-- A row's standard deviation from the Gram matrix of the keys. -/
noncomputable def sdK (q ks : Fin 64 → EReal) (g : Fin 64 → Fin 64 → EReal) : EReal :=
  Ideal.sqrt (max ((∑ e, (∑ d, q d * g d e) * q e) * Ideal.ofBits .f32 0x3A000000#32 - muK q ks * muK q ks)
    (Ideal.ofBits .f32 0x1E3CE508#32))

variable (r : Fin 1024) (q ks : Fin 64 → EReal) (g : Fin 64 → Fin 64 → EReal)

/-- The Gram matrix of the keys. -/
theorem gram (v0 : Vec Ideal S1x2048x64 .f32) (d e : Fin 64) :
    k0_pay3 v0 (ix2 d e) = ∑ j : Fin 2048, v0 (ix3 0 j d) * v0 (ix3 0 j e) := by
  unfold_payloads
  pointwise [dot_S2048x64_S2048x64_S64x64_0_0_1_1_n_n]

/-- The column sums of the keys. -/
theorem sums (v0 : Vec Ideal S1x2048x64 .f32) (e : Fin 64) : k0_pay4 v0 (ix2 0 e) = ∑ j : Fin 2048, v0 (ix3 0 j e) := by
  unfold_payloads
  pointwise

/-- The value block's first half is the values. -/
theorem aug_lo (v : Vec Ideal S1x2048x64 .f32) (j : Fin 2048) (e : Fin 64) :
    k0_pay5 v (ix2 j ⟨e.val, by omega⟩) = v (ix3 0 j e) := by
  unfold_payloads
  pointwise

/-- The value block's sixty-fifth column is ones. -/
theorem aug_one (v : Vec Ideal S1x2048x64 .f32) (j : Fin 2048) : k0_pay5 v (ix2 j 64) = 1 := by
  unfold_payloads
  pointwise

/-- The first half's scores. -/
theorem scoresA (v0 : Vec Ideal S1x2048x64 .f32) (v5 : Vec Ideal S1x1024x64 .f32) (j : Fin 2048) :
    k0_pay8 v0 v5 (ix2 r j) = ∑ e : Fin 64, v5 (ix3 0 r e) * v0 (ix3 0 j e) := by
  unfold_payloads
  pointwise [dot_S1024x64_S2048x64_S1024x2048_1_1_0_0_n_n]

/-- The second half's scores. -/
theorem scoresB (v0 : Vec Ideal S1x2048x64 .f32) (v5 : Vec Ideal S1x1024x64 .f32) (j : Fin 2048) :
    k0_pay9 v0 v5 (ix2 r j) = ∑ e : Fin 64, v5 (ix3 0 r e) * v0 (ix3 0 j e) := by
  unfold_payloads
  pointwise [dot_S1024x64_S2048x64_S1024x2048_1_1_0_0_n_n]

/-- The first half's mean. -/
theorem muA (v5 : Vec Ideal S1x1024x64 .f32) (v11 : Vec Ideal S1x64 .f32) (hq : ∀ e, v5 (ix3 0 r e) = q e)
    (hk : ∀ e, v11 (ix2 0 e) = ks e) : At (k0_pay10 v5 v11) r (muK q ks) := by
  unfold At; unfold_payloads
  pointwise [hq, hk, muK, dot_S1024x64_S1x64_S1024x1_1_1_0_0_n_n]

/-- The first half's deviation. -/
theorem sdA (v5 : Vec Ideal S1x1024x64 .f32) (v11 : Vec Ideal S1x64 .f32) (v12 : Vec Ideal S64x64 .f32)
    (hq : ∀ e, v5 (ix3 0 r e) = q e) (hk : ∀ e, v11 (ix2 0 e) = ks e) (hg : ∀ d e, v12 (ix2 d e) = g d e) :
    At (k0_pay11 v5 v11 v12) r (sdK q ks g) := by
  unfold At; unfold_payloads
  pointwise [hq, hk, hg, muK, sdK, dot_S1024x64_S1x64_S1024x1_1_1_0_0_n_n, dot_S1024x64_S64x64_S1024x64_1_0_0_1_n_n]

/-- The first half's reciprocal density. -/
theorem invA (v5 : Vec Ideal S1x1024x64 .f32) (v11 : Vec Ideal S1x64 .f32) (v12 : Vec Ideal S64x64 .f32)
    (hq : ∀ e, v5 (ix3 0 r e) = q e) (hk : ∀ e, v11 (ix2 0 e) = ks e) (hg : ∀ d e, v12 (ix2 d e) = g d e) :
    At (k0_pay12 v5 v11 v12) r (Row.inv (sdK q ks g)) := by
  have h := sdA r q ks g v5 v11 v12 hq hk hg
  unfold At k0_pay12
  pointwise [h, Row.inv]

/-- The second half's mean. -/
theorem muB (v5 : Vec Ideal S1x1024x64 .f32) (v11 : Vec Ideal S1x64 .f32) (hq : ∀ e, v5 (ix3 0 r e) = q e)
    (hk : ∀ e, v11 (ix2 0 e) = ks e) : At (k0_pay73 (k0_pay7 v5) v11) r (muK q ks) := by
  unfold At; unfold_payloads
  pointwise [hq, hk, muK, dot_S1024x64_S1x64_S1024x1_1_1_0_0_n_n]

/-- The second half's deviation. -/
theorem sdB (v5 : Vec Ideal S1x1024x64 .f32) (v11 : Vec Ideal S1x64 .f32) (v12 : Vec Ideal S64x64 .f32)
    (hq : ∀ e, v5 (ix3 0 r e) = q e) (hk : ∀ e, v11 (ix2 0 e) = ks e) (hg : ∀ d e, v12 (ix2 d e) = g d e) :
    At (k0_pay74 (k0_pay7 v5) v11 v12) r (sdK q ks g) := by
  unfold At; unfold_payloads
  pointwise [hq, hk, hg, muK, sdK, dot_S1024x64_S1x64_S1024x1_1_1_0_0_n_n, dot_S1024x64_S64x64_S1024x64_1_0_0_1_n_n]

/-- The second half's reciprocal density. -/
theorem invB (v5 : Vec Ideal S1x1024x64 .f32) (v11 : Vec Ideal S1x64 .f32) (v12 : Vec Ideal S64x64 .f32)
    (hq : ∀ e, v5 (ix3 0 r e) = q e) (hk : ∀ e, v11 (ix2 0 e) = ks e) (hg : ∀ d e, v12 (ix2 d e) = g d e) :
    At (k0_pay75 (k0_pay7 v5) v11 v12) r (Row.inv (sdK q ks g)) := by
  have h := sdB r q ks g v5 v11 v12 hq hk hg
  unfold At k0_pay75
  pointwise [h, Row.inv]

/-- The second half's first probe. -/
theorem t0B (v5 : Vec Ideal S1x1024x64 .f32) (v11 : Vec Ideal S1x64 .f32) (v12 : Vec Ideal S64x64 .f32)
    (hq : ∀ e, v5 (ix3 0 r e) = q e) (hk : ∀ e, v11 (ix2 0 e) = ks e) (hg : ∀ d e, v12 (ix2 d e) = g d e) :
    At (k0_pay76 (k0_pay7 v5) v11 v12) r (muK q ks + Ideal.ofBits .f32 0x3F063F1D#32 * sdK q ks g) := by
  have h := sdB r q ks g v5 v11 v12 hq hk hg
  have h' := muB r q ks v5 v11 hq hk
  unfold At k0_pay76
  pointwise [h, h']

/-- The second half's scores against its first probe, as words. -/
theorem geB (v10 : FVec Ideal S1024x2048 .f32) (v5 : Vec Ideal S1x1024x64 .f32) (v11 : Vec Ideal S1x64 .f32) (v12 : Vec Ideal S64x64 .f32)
    (hq : ∀ e, v5 (ix3 0 r e) = q e) (hk : ∀ e, v11 (ix2 0 e) = ks e) (hg : ∀ d e, v12 (ix2 d e) = g d e) (j : Fin 2048) :
    k0_pay77 (k0_pay7 v5) v10 v11 v12 (ix2 r j)
      = BitVec.setWidth 32 (BitVec.ofBool (decide (muK q ks + Ideal.ofBits .f32 0x3F063F1D#32 * sdK q ks g ≤ v10 (ix2 r j)))) := by
  have h := t0B r q ks g v5 v11 v12 hq hk hg
  unfold k0_pay77
  pointwise [h]

end Moments
-- ==== Proof.Tile.lean ====
/-
  One grid point's output block, read at a row and a lane.
-/
module

public import proofs.«01_k».proof.Proof.HalfB
public import proofs.«01_k».proof.Proof.Moments
public import proofs.«01_k».proof.Proof.Gen.KernelIdeal.Frame
public import Idealize.ShloMosaic.Lib.Pipeline.Value

@[expose] public section

noncomputable section

namespace Tile

open Idealize.ShloMosaic Idealize.ShloMosaic.TcCoe Cert.KernelIdeal Cert.KernelIdeal.Gen Row Half HalfB Moments

/-- The scores of a query row against the keys. -/
def sc (q : Fin 64 → EReal) (k : Fin 2048 → Fin 64 → EReal) (j : Fin 2048) : EReal := ∑ e, q e * k j e

/-- The column sums of the keys. -/
def ks (k : Fin 2048 → Fin 64 → EReal) (e : Fin 64) : EReal := ∑ j, k j e

/-- The Gram matrix of the keys. -/
def gm (k : Fin 2048 → Fin 64 → EReal) (d e : Fin 64) : EReal := ∑ j, k j d * k j e

/-- The kernel's mean, deviation and threshold of a row. -/
def mu (q : Fin 64 → EReal) (k : Fin 2048 → Fin 64 → EReal) : EReal := muK q (ks k)
/-- The spread of a row's scores as the kernel computes it, from the sums over the head's keys. -/
def sd (q : Fin 64 → EReal) (k : Fin 2048 → Fin 64 → EReal) : EReal := sdK q (ks k) (gm k)
/-- The threshold the kernel's search ends on for a query row and the keys of its head. -/
def th (q : Fin 64 → EReal) (k : Fin 2048 → Fin 64 → EReal) : EReal := thr (sc q k) (mu q k) (sd q k)

/-- The kernel's result for a query row, the keys and one column of the values. -/
def res (q : Fin 64 → EReal) (k : Fin 2048 → Fin 64 → EReal) (v : Fin 2048 → EReal) : EReal :=
  Ideal.div (∑ j, wt (sc q k) (mu q k) (sd q k) (th q k) j * v j) (∑ j, wt (sc q k) (mu q k) (sd q k) (th q k) j * 1)

/-- The kernel's result over the block of one grid point. -/
def G (x0 x1 x2 : Vec Ideal S1x2048x64 .f32) : Vec Ideal S1x2048x64 .f32 := fun i =>
  res (fun e => x0 (ix3 0 (i 1) e)) (fun j e => x1 (ix3 0 j e)) (fun j => x2 (ix3 0 j (i 2)))

/-- Three zero offsets written out are the constant zero. -/
theorem hz3 : (![0, 0, 0] : Fin 3 → Nat) = fun _ => 0 := funext fun a => by fin_cases a <;> rfl
/-- Two zero offsets written out are the constant zero. -/
theorem hz2 : (![0, 0] : Fin 2 → Nat) = fun _ => 0 := funext fun a => by fin_cases a <;> rfl

/-- The first half's piece at a row and a lane. -/
theorem pieceA (k v : Vec Ideal S1x2048x64 .f32) (qa : Vec Ideal S1x1024x64 .f32) (r : Fin 1024) (e : Fin 64)
    {a b c d a' b' c' d' a'' b'' c'' d'' tn cn m2' : FVec Ideal S1024x1 .f32} {m1' : FVec Ideal S1024x2048 .f32}
    (ha : a = k0_pay27 (k0_pay8 k qa) (k0_pay10 qa (k0_pay4 k)) (k0_pay11 qa (k0_pay4 k) (k0_pay3 k)) (k0_pay12 qa (k0_pay4 k) (k0_pay3 k)) (Scalar.ofBits .f32 0x3F063F1D#32))
    (hb : b = k0_pay28 (k0_pay8 k qa) (k0_pay10 qa (k0_pay4 k)) (k0_pay11 qa (k0_pay4 k) (k0_pay3 k)) (k0_pay12 qa (k0_pay4 k) (k0_pay3 k)) (Scalar.ofBits .f32 0x3F063F1D#32))
    (hc : c = k0_pay29 (k0_pay8 k qa) (k0_pay10 qa (k0_pay4 k)) (k0_pay11 qa (k0_pay4 k) (k0_pay3 k)) (k0_pay12 qa (k0_pay4 k) (k0_pay3 k)) (Scalar.ofBits .f32 0x3F063F1D#32))
    (hd : d = k0_pay30 (k0_pay8 k qa) (k0_pay10 qa (k0_pay4 k)) (k0_pay11 qa (k0_pay4 k) (k0_pay3 k)) (k0_pay12 qa (k0_pay4 k) (k0_pay3 k)) (Scalar.ofBits .f32 0x3F063F1D#32))
    (ha' : a' = k0_pay37 (k0_pay8 k qa) (k0_pay12 qa (k0_pay4 k) (k0_pay3 k)) a b c d k0_pay31)
    (hb' : b' = k0_pay38 (k0_pay8 k qa) (k0_pay12 qa (k0_pay4 k) (k0_pay3 k)) a b c d k0_pay31)
    (hc' : c' = k0_pay39 (k0_pay8 k qa) (k0_pay12 qa (k0_pay4 k) (k0_pay3 k)) a b c d k0_pay31)
    (hd' : d' = k0_pay40 (k0_pay8 k qa) (k0_pay12 qa (k0_pay4 k) (k0_pay3 k)) a b c d k0_pay31)
    (ha'' : a'' = k0_pay47 (k0_pay8 k qa) (k0_pay12 qa (k0_pay4 k) (k0_pay3 k)) a' b' c' d' k0_pay41)
    (hb'' : b'' = k0_pay48 (k0_pay8 k qa) (k0_pay12 qa (k0_pay4 k) (k0_pay3 k)) a' b' c' d' k0_pay41)
    (hc'' : c'' = k0_pay49 (k0_pay8 k qa) (k0_pay12 qa (k0_pay4 k) (k0_pay3 k)) a' b' c' d' k0_pay41)
    (hd'' : d'' = k0_pay50 (k0_pay8 k qa) (k0_pay12 qa (k0_pay4 k) (k0_pay3 k)) a' b' c' d' k0_pay41)
    (htn : tn = k0_pay52 (k0_pay12 qa (k0_pay4 k) (k0_pay3 k)) a'' b'' c'' d'' k0_pay51)
    (hcn : cn = k0_pay54 (k0_pay8 k qa) (k0_pay12 qa (k0_pay4 k) (k0_pay3 k)) a'' b'' c'' d'' k0_pay51)
    (hm2 : m2' = k0_pay55 (k0_pay8 k qa) (k0_pay12 qa (k0_pay4 k) (k0_pay3 k)) a'' b'' c'' d'' k0_pay51)
    (hm1 : m1' = k0_pay56 (k0_pay8 k qa) (k0_pay12 qa (k0_pay4 k) (k0_pay3 k)) a'' b'' c'' d'' k0_pay51) :
    k0_pay72 (k0_pay8 k qa) (k0_pay5 v) (k0_pay10 qa (k0_pay4 k)) (k0_pay11 qa (k0_pay4 k) (k0_pay3 k))
        (k0_pay69 (k0_pay8 k qa) a'' tn cn m2' m1') (k0_pay70 (k0_pay8 k qa) c'' tn cn m2' m1')
        (k0_pay71 (k0_pay8 k qa) a'' b'' c'' d'' tn cn m2' m1') (ix3 0 r e)
      = res (fun e => qa (ix3 0 r e)) (fun j e => k (ix3 0 j e)) (fun j => v (ix3 0 j e)) := by
  set q : Fin 64 → EReal := fun e => qa (ix3 0 r e)
  set K : Fin 2048 → Fin 64 → EReal := fun j e => k (ix3 0 j e)
  have hk : ∀ e, k0_pay4 k (ix2 0 e) = ks K e := sums k
  have hg : ∀ d e, k0_pay3 k (ix2 d e) = gm K d e := gram k
  have hs : ∀ j, k0_pay8 k qa (ix2 r j) = sc q K j := scoresA r k qa
  have hmu : At (k0_pay10 qa (k0_pay4 k)) r (mu q K) := muA r q (ks K) qa _ (fun _ => rfl) hk
  have hsd : At (k0_pay11 qa (k0_pay4 k) (k0_pay3 k)) r (sd q K) := sdA r q (ks K) (gm K) qa _ _ (fun _ => rfl) hk hg
  have hinv : At (k0_pay12 qa (k0_pay4 k) (k0_pay3 k)) r (Row.inv (sd q K)) := invA r q (ks K) (gm K) qa _ _ (fun _ => rfl) hk hg
  have h2 := part2 r (sc q K) (mu q K) (sd q K) _ _ _ _ _ hs hmu hsd hinv
  rw [← ha, ← hb, ← hc, ← hd] at h2
  have h3 := part3 r (sc q K) _ _ _ _ _ _ _ _ hs hinv h2
  rw [← ha', ← hb', ← hc', ← hd'] at h3
  have h4 := part4 r (sc q K) _ _ _ _ _ _ _ _ hs hinv h3
  rw [← ha'', ← hb'', ← hc'', ← hd''] at h4
  have h5t := part5_tn r _ _ _ _ _ _ _ hinv h4
  have h5c := part5_cn r (sc q K) _ _ _ _ _ _ _ _ hs hinv h4
  have h5m := part5_m2 r (sc q K) _ _ _ _ _ _ _ _ hs hinv h4
  have h5n := fun j => part5_m1 r (sc q K) _ _ _ _ _ _ _ _ j hs hinv h4
  rw [← htn] at h5t
  rw [← hcn] at h5c
  rw [← hm2] at h5m
  simp only [← hm1] at h5n
  obtain ⟨e1, e2, e3⟩ := part6 r (sc q K) _ _ _ _ _ _ _ _ _ _ _ hs h4 h5t h5c h5m h5n
  rw [part7 r (sc q K) (mu q K) (sd q K) _ _ _ _ _ _ _ (th q K) (fun j e => k0_pay5 v (ix2 j e)) hs hmu hsd ?_ (fun _ _ => rfl) e]
  · simp only [aug_lo, aug_one]
    rfl
  · rw [e1, e2, e3, select_ofBool]
    rfl

/-- The second half's piece at a row and a lane. -/
theorem pieceB (k v : Vec Ideal S1x2048x64 .f32) (qb : Vec Ideal S1x1024x64 .f32) (r : Fin 1024) (e : Fin 64)
    {a b c d z a' b' c' d' z' a'' b'' c'' d'' z'' tn cn m2' : FVec Ideal S1024x1 .f32} {x y x' y' x'' y'' : IVec S1024x1 1}
    {up : FVec Ideal S1024 .f32}
    (ha : a = k0_pay91 (k0_pay9 k qb) (k0_pay75 (k0_pay7 qb) (k0_pay4 k) (k0_pay3 k)) (k0_pay76 (k0_pay7 qb) (k0_pay4 k) (k0_pay3 k)) (k0_pay77 (k0_pay7 qb) (k0_pay9 k qb) (k0_pay4 k) (k0_pay3 k)))
    (hb : b = k0_pay92 (k0_pay9 k qb) (k0_pay75 (k0_pay7 qb) (k0_pay4 k) (k0_pay3 k)) (k0_pay76 (k0_pay7 qb) (k0_pay4 k) (k0_pay3 k)) (k0_pay77 (k0_pay7 qb) (k0_pay9 k qb) (k0_pay4 k) (k0_pay3 k)))
    (hc : c = k0_pay93 (k0_pay9 k qb) (k0_pay75 (k0_pay7 qb) (k0_pay4 k) (k0_pay3 k)) (k0_pay76 (k0_pay7 qb) (k0_pay4 k) (k0_pay3 k)) (k0_pay77 (k0_pay7 qb) (k0_pay9 k qb) (k0_pay4 k) (k0_pay3 k)))
    (hd : d = k0_pay94 (k0_pay9 k qb) (k0_pay75 (k0_pay7 qb) (k0_pay4 k) (k0_pay3 k)) (k0_pay76 (k0_pay7 qb) (k0_pay4 k) (k0_pay3 k)) (k0_pay77 (k0_pay7 qb) (k0_pay9 k qb) (k0_pay4 k) (k0_pay3 k)))
    (hx : x = k0_pay95 (k0_pay9 k qb) (k0_pay75 (k0_pay7 qb) (k0_pay4 k) (k0_pay3 k)) (k0_pay76 (k0_pay7 qb) (k0_pay4 k) (k0_pay3 k)) (k0_pay77 (k0_pay7 qb) (k0_pay9 k qb) (k0_pay4 k) (k0_pay3 k)))
    (hy : y = k0_pay96 (k0_pay9 k qb) (k0_pay75 (k0_pay7 qb) (k0_pay4 k) (k0_pay3 k)) (k0_pay76 (k0_pay7 qb) (k0_pay4 k) (k0_pay3 k)) (k0_pay77 (k0_pay7 qb) (k0_pay9 k qb) (k0_pay4 k) (k0_pay3 k)))
    (hz : z = k0_pay97 (k0_pay9 k qb) (k0_pay75 (k0_pay7 qb) (k0_pay4 k) (k0_pay3 k)) (k0_pay76 (k0_pay7 qb) (k0_pay4 k) (k0_pay3 k)) (k0_pay77 (k0_pay7 qb) (k0_pay9 k qb) (k0_pay4 k) (k0_pay3 k)))
    (ha' : a' = k0_pay103 (k0_pay9 k qb) (k0_pay75 (k0_pay7 qb) (k0_pay4 k) (k0_pay3 k)) a b c d x y z (Scalar.ofBits .f32 0x3089705F#32))
    (hb' : b' = k0_pay104 (k0_pay9 k qb) (k0_pay75 (k0_pay7 qb) (k0_pay4 k) (k0_pay3 k)) a b c d x y z (Scalar.ofBits .f32 0x3089705F#32))
    (hc' : c' = k0_pay105 (k0_pay9 k qb) (k0_pay75 (k0_pay7 qb) (k0_pay4 k) (k0_pay3 k)) a b c d x y z (Scalar.ofBits .f32 0x3089705F#32))
    (hd' : d' = k0_pay106 (k0_pay9 k qb) (k0_pay75 (k0_pay7 qb) (k0_pay4 k) (k0_pay3 k)) a b c d x y z (Scalar.ofBits .f32 0x3089705F#32))
    (hx' : x' = k0_pay107 (k0_pay9 k qb) (k0_pay75 (k0_pay7 qb) (k0_pay4 k) (k0_pay3 k)) a b c d x y z (Scalar.ofBits .f32 0x3089705F#32))
    (hy' : y' = k0_pay108 (k0_pay9 k qb) (k0_pay75 (k0_pay7 qb) (k0_pay4 k) (k0_pay3 k)) a b c d x y z (Scalar.ofBits .f32 0x3089705F#32))
    (hz' : z' = k0_pay109 (k0_pay9 k qb) (k0_pay75 (k0_pay7 qb) (k0_pay4 k) (k0_pay3 k)) a b c d x y z (Scalar.ofBits .f32 0x3089705F#32))
    (ha'' : a'' = k0_pay115 (k0_pay9 k qb) (k0_pay75 (k0_pay7 qb) (k0_pay4 k) (k0_pay3 k)) a' b' c' d' x' y' z' (Scalar.ofBits .f32 0x3089705F#32))
    (hb'' : b'' = k0_pay116 (k0_pay9 k qb) (k0_pay75 (k0_pay7 qb) (k0_pay4 k) (k0_pay3 k)) a' b' c' d' x' y' z' (Scalar.ofBits .f32 0x3089705F#32))
    (hc'' : c'' = k0_pay117 (k0_pay9 k qb) (k0_pay75 (k0_pay7 qb) (k0_pay4 k) (k0_pay3 k)) a' b' c' d' x' y' z' (Scalar.ofBits .f32 0x3089705F#32))
    (hd'' : d'' = k0_pay118 (k0_pay9 k qb) (k0_pay75 (k0_pay7 qb) (k0_pay4 k) (k0_pay3 k)) a' b' c' d' x' y' z' (Scalar.ofBits .f32 0x3089705F#32))
    (hx'' : x'' = k0_pay119 (k0_pay9 k qb) (k0_pay75 (k0_pay7 qb) (k0_pay4 k) (k0_pay3 k)) a' b' c' d' x' y' z' (Scalar.ofBits .f32 0x3089705F#32))
    (hy'' : y'' = k0_pay120 (k0_pay9 k qb) (k0_pay75 (k0_pay7 qb) (k0_pay4 k) (k0_pay3 k)) a' b' c' d' x' y' z' (Scalar.ofBits .f32 0x3089705F#32))
    (hz'' : z'' = k0_pay121 (k0_pay9 k qb) (k0_pay75 (k0_pay7 qb) (k0_pay4 k) (k0_pay3 k)) a' b' c' d' x' y' z' (Scalar.ofBits .f32 0x3089705F#32))
    (htn : tn = k0_pay122 (k0_pay75 (k0_pay7 qb) (k0_pay4 k) (k0_pay3 k)) a'' b'' c'' d'' x'' y'' z'' (Scalar.ofBits .f32 0x3089705F#32))
    (hcn : cn = k0_pay124 (k0_pay9 k qb) (k0_pay75 (k0_pay7 qb) (k0_pay4 k) (k0_pay3 k)) a'' b'' c'' d'' x'' y'' z'' (Scalar.ofBits .f32 0x3089705F#32))
    (hm2' : m2' = k0_pay125 (k0_pay9 k qb) (k0_pay75 (k0_pay7 qb) (k0_pay4 k) (k0_pay3 k)) a'' b'' c'' d'' x'' y'' z'' (Scalar.ofBits .f32 0x3089705F#32))
    (hup : up = k0_pay126 (k0_pay9 k qb) (k0_pay75 (k0_pay7 qb) (k0_pay4 k) (k0_pay3 k)) a'' b'' c'' d'' x'' y'' z'' (Scalar.ofBits .f32 0x3089705F#32)) :
    k0_pay1 (k0_pay9 k qb) (k0_pay5 v) (k0_pay127 (k0_pay73 (k0_pay7 qb) (k0_pay4 k)) (k0_pay74 (k0_pay7 qb) (k0_pay4 k) (k0_pay3 k)))
        (k0_pay128 a'' b'' c'' d'' tn cn m2' up) (ix3 0 r e)
      = res (fun e => qb (ix3 0 r e)) (fun j e => k (ix3 0 j e)) (fun j => v (ix3 0 j e)) := by
  set q : Fin 64 → EReal := fun e => qb (ix3 0 r e)
  set K : Fin 2048 → Fin 64 → EReal := fun j e => k (ix3 0 j e)
  have hk : ∀ e, k0_pay4 k (ix2 0 e) = ks K e := sums k
  have hg : ∀ d e, k0_pay3 k (ix2 d e) = gm K d e := gram k
  have hs : ∀ j, (k0_pay9 k qb) (ix2 r j) = sc q K j := scoresB r k qb
  have hmu : At (k0_pay73 (k0_pay7 qb) (k0_pay4 k)) r (mu q K) := muB r q (ks K) qb _ (fun _ => rfl) hk
  have hsd : At (k0_pay74 (k0_pay7 qb) (k0_pay4 k) (k0_pay3 k)) r (sd q K) := sdB r q (ks K) (gm K) qb _ _ (fun _ => rfl) hk hg
  have hinv : At (k0_pay75 (k0_pay7 qb) (k0_pay4 k) (k0_pay3 k)) r (Row.inv (sd q K)) := invB r q (ks K) (gm K) qb _ _ (fun _ => rfl) hk hg
  have ht0 := t0B r q (ks K) (gm K) qb _ _ (fun _ => rfl) hk hg
  have hge := geB r q (ks K) (gm K) (k0_pay9 k qb) qb _ _ (fun _ => rfl) hk hg
  simp only [hs] at hge
  have h8 := part8 r (sc q K) _ _ _ _ _ _ hs hinv ht0 hge
  have p8 := part8_pre r _ _ _ _ _ h8
  rw [← ha, ← hb, ← hc, ← hd] at h8
  rw [← hx, ← hy, ← hz] at p8
  have h9 := part9 r (sc q K) _ _ _ _ _ _ _ _ _ _ _ hs hinv h8 p8
  have p9 := part9_pre r _ _ _ _ _ _ _ _ _ _ _ h9
  rw [← ha', ← hb', ← hc', ← hd'] at h9
  rw [← hx', ← hy', ← hz'] at p9
  have h10 := part10 r (sc q K) _ _ _ _ _ _ _ _ _ _ _ hs hinv h9 p9
  have p10 := part10_pre r _ _ _ _ _ _ _ _ _ _ _ h10
  rw [← ha'', ← hb'', ← hc'', ← hd''] at h10
  rw [← hx'', ← hy'', ← hz''] at p10
  have h11t := part11_tn r _ _ _ _ _ _ _ _ _ _ hinv h10 p10
  have h11c := part11_cn r (sc q K) _ _ _ _ _ _ _ _ _ _ _ hs hinv h10 p10
  have h11m := part11_m2 r (sc q K) _ _ _ _ _ _ _ _ _ _ _ hs hinv h10 p10
  have h11u := part11_up r (sc q K) _ _ _ _ _ _ _ _ _ _ _ hs hinv h10 p10
  rw [← htn] at h11t
  rw [← hcn] at h11c
  rw [← hm2'] at h11m
  rw [← hup] at h11u
  rw [HalfB.part13 r (sc q K) (mu q K) (sd q K) _ _ _ _ _ (th q K) (fun j e => k0_pay5 v (ix2 j e)) hs hmu hsd ?_ (fun _ _ => rfl) e]
  · simp only [aug_lo, aug_one]
    rfl
  · exact fun j => part12 r (sc q K) _ _ _ _ _ _ _ _ _ _ j h10 h11t h11c h11m h11u

/-- Two pieces agree with one function of the block if each does. -/
theorem two_pieces (g : S1x2048x64.Idx → Elt Ideal .f32) (r1 r2 : Rect S1x2048x64) (w1 : r1.shape.Idx → Elt Ideal .f32)
    (w2 : r2.shape.Idx → Elt Ideal .f32) (h1 : ∀ x, w1 x = g (r1.emb x)) (h2 : ∀ x, w2 x = g (r2.emb x)) :
    ∀ p ∈ ([⟨r1, w1⟩, ⟨r2, w2⟩] : List (View.Piece (Elt Ideal) S1x2048x64 .f32)), ∀ x : p.1.shape.Idx, p.2 x = g (p.1.emb x) := by
  intro p hp
  simp only [List.mem_cons, List.mem_nil_iff, or_false] at hp
  rcases hp with rfl | rfl
  · exact h1
  · exact h2

/-- An index of a half tile by its row and lane. -/
theorem eq_ix (x : S1x1024x64.Idx) : x = ix3 0 (x 1) (x 2) := by
  funext a
  match a with
  | ⟨0, _⟩ => exact Subsingleton.elim (α := Fin 1) _ _
  | ⟨1, _⟩ => rfl
  | ⟨2, _⟩ => rfl

/-- A half tile's vector read everywhere by its row and lane. -/
theorem half_ext (w g : FVec Ideal S1x1024x64 .f32) (h : ∀ (r : Fin 1024) (e : Fin 64), w (ix3 0 r e) = g (ix3 0 r e)) (x : S1x1024x64.Idx) :
    w x = g x := by
  rw [eq_ix x]; exact h _ _

/-- Where the first half's rows lie in the block. -/
theorem emb_lo (r : Fin 1024) (e : Fin 64) : (Rect.unit (s := S1x2048x64) ![0, 0, 0] S1x1024x64.size inb_S1x2048x64_S1x1024x64_0_0_0).emb (ix3 0 r e) = ix3 0 ⟨r.val, by omega⟩ e := by
  funext a
  match a with
  | ⟨0, _⟩ => exact Fin.ext (by show 0 + 1 * 0 = 0; omega)
  | ⟨1, _⟩ => exact Fin.ext (by show 0 + 1 * r.val = r.val; omega)
  | ⟨2, _⟩ => exact Fin.ext (by show 0 + 1 * e.val = e.val; omega)

/-- The kernel's result over the first half's rows. -/
theorem G_lo (x0 x1 x2 : Vec Ideal S1x2048x64 .f32) (r : Fin 1024) (e : Fin 64) :
    res (fun e => View.ld x0 (Rect.unit (s := S1x2048x64) ![0, 0, 0] S1x1024x64.size inb_S1x2048x64_S1x1024x64_0_0_0) (ix3 0 r e)) (fun j e => x1 (ix3 0 j e)) (fun j => x2 (ix3 0 j e))
      = G x0 x1 x2 ((Rect.unit (s := S1x2048x64) ![0, 0, 0] S1x1024x64.size inb_S1x2048x64_S1x1024x64_0_0_0).emb (ix3 0 r e)) := by
  rw [emb_lo]
  unfold G
  congr 1
  funext e'
  exact congrArg x0 (emb_lo r e')

/-- Where the second half's rows lie in the block. -/
theorem emb_hi (r : Fin 1024) (e : Fin 64) : (Rect.unit (s := S1x2048x64) ![0, 1024, 0] S1x1024x64.size inb_S1x2048x64_S1x1024x64_0_1024_0).emb (ix3 0 r e) = ix3 0 ⟨1024 + r.val, by omega⟩ e := by
  funext a
  match a with
  | ⟨0, _⟩ => exact Fin.ext (by show 0 + 1 * 0 = 0; omega)
  | ⟨1, _⟩ => exact Fin.ext (by show 1024 + 1 * r.val = 1024 + r.val; omega)
  | ⟨2, _⟩ => exact Fin.ext (by show 0 + 1 * e.val = e.val; omega)

/-- The kernel's result over the second half's rows. -/
theorem G_hi (x0 x1 x2 : Vec Ideal S1x2048x64 .f32) (r : Fin 1024) (e : Fin 64) :
    res (fun e => View.ld x0 (Rect.unit (s := S1x2048x64) ![0, 1024, 0] S1x1024x64.size inb_S1x2048x64_S1x1024x64_0_1024_0) (ix3 0 r e)) (fun j e => x1 (ix3 0 j e)) (fun j => x2 (ix3 0 j e))
      = G x0 x1 x2 ((Rect.unit (s := S1x2048x64) ![0, 1024, 0] S1x1024x64.size inb_S1x2048x64_S1x1024x64_0_1024_0).emb (ix3 0 r e)) := by
  rw [emb_hi]
  unfold G
  congr 1
  funext e'
  exact congrArg x0 (emb_hi r e')

variable (m : (ℓ : Loc nD τ sig) → Buf (Elt Ideal) ℓ) (c : Dev nD) (t : Fin cfg0.N)

/-- What a grid point leaves in its output block is the kernel's result over it. -/
theorem outs_eq : outsAt0 (F := Ideal) m c t = G (iblk m c 0 t) (iblk m c 1 t) (iblk m c 2 t) := by
  funext y
  unfold outsAt0 out0_A_3
  refine View.read_writes_apply_of_pieces _ _ _ _ ?_ y (cover0_A_3 (F := Ideal) c _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, View.ld_unit_zero (S := S1x2048x64) hz3, View.readCov_unit_zero (S := S1x64) _ hz2,
    View.readCov_unit_zero (S := S64x64) _ hz2, View.readCov_unit_zero (S := S2048x128) _ hz2]
  refine two_pieces _ _ _ _ _ (half_ext _ _ fun r e => ?_) (half_ext _ _ fun r e => ?_)
  · exact (pieceB (iblk m c 1 t) (iblk m c 2 t) _ r e rfl rfl rfl rfl rfl rfl rfl rfl rfl rfl rfl rfl rfl rfl
      rfl rfl rfl rfl rfl rfl rfl rfl rfl rfl rfl).trans (G_hi _ _ _ r e)
  · exact (pieceA (iblk m c 1 t) (iblk m c 2 t) _ r e rfl rfl rfl rfl rfl rfl rfl rfl rfl rfl rfl rfl rfl rfl rfl rfl).trans
      (G_lo _ _ _ r e)

end Tile
-- ==== Proof.Mask.lean ====
/-
  The mask's result at an index, read as a statement about one row: where it is true, exactly 614 scores reach the
  threshold its search ends on, and the query row and the head's keys are finite. The mask's chain is printed in parts;
  each theorem takes one part, with what its live values hold at the row.
-/
module

public import proofs.«01_k».proof.Proof.Row
public import proofs.«01_k».proof.On_exact_rows

@[expose] public section

namespace Mask

open Idealize.ShloMosaic Cert.On_exact_rows Row

/-- Four columns of the mask hold a bracket at row `l` of head `h`. -/
structure AtSt (a b c d : FVec Ideal S1x16x2048x1 .f32) (h : Fin 16) (l : Fin 2048) (σ : St) : Prop where
  tlo : a (ix4 0 h l 0) = σ.tlo
  clo : b (ix4 0 h l 0) = σ.clo
  thi : c (ix4 0 h l 0) = σ.thi
  chi : d (ix4 0 h l 0) = σ.chi

/-- What the mask says of a row: 614 scores reach the threshold, and the query row and the head's keys are finite. -/
structure Good (a0 a1 : FVec Ideal S1x2048x16x64 .f32) (h : Fin 16) (l : Fin 2048) (s : Fin 2048 → EReal) (T : EReal) : Prop where
  count : (Finset.univ : Finset (Fin 2048)).fold IntOp.addi 0#32 (fun j => BitVec.setWidth 32 (BitVec.ofBool (decide (T ≤ s j)))) = 614#32
  query : ∀ e : Fin 64, max (a0 (ix4 0 l h e)) (-(a0 (ix4 0 l h e))) < ⊤
  keys : ∀ (j : Fin 2048) (e : Fin 64), max (a1 (ix4 0 j h e)) (-(a1 (ix4 0 j h e))) < ⊤

/-- A conjunction of words that is true has every word true. -/
theorem fold_andi {ι : Type} [DecidableEq ι] (S : Finset ι) (x : ι → BitVec 1) (h : S.fold IntOp.andi 1#1 x = 1#1) : ∀ i ∈ S, x i = 1#1 := by
  induction S using Finset.induction_on with
  | empty => intro i hi; simp at hi
  | insert a S ha ih =>
    rw [Finset.fold_insert ha] at h
    have key : ∀ u v : BitVec 1, IntOp.andi u v = 1#1 → u = 1#1 ∧ v = 1#1 := by decide
    obtain ⟨h1, h2⟩ := key _ _ h
    intro i hi
    rcases Finset.mem_insert.mp hi with rfl | hi
    · exact h1
    · exact ih h2 i hi

/-- The word of a truth value is true only where the value is. -/
theorem of_ofBool {p : Prop} [Decidable p] (h : BitVec.ofBool (decide p) = 1#1) : p := by
  by_contra hp
  rw [decide_eq_false hp] at h
  exact absurd h (by decide)

/-- Flipping the word of a truth value. -/
theorem not_ofBool (a : Bool) : ~~~(BitVec.ofBool a) = BitVec.ofBool (!a) := by
  cases a <;> rfl

variable [Facts] (a0 a1 : FVec Ideal S1x2048x16x64 .f32) (h : Fin 16) (l : Fin 2048) (d : Fin 64) (s : Fin 2048 → EReal)
  (σ : St) (mu sd inv t c tc cc : EReal) (v0 : FVec Ideal S1x16x2048x2048 .f32)

/-- The last part: the conjunction of the three conditions. -/
theorem part14 (v258 v263 : IVec S1x16x2048 1) (v266 : IVec S1x2048x16x64 1)
    (H : fn_part14 (F := Ideal) v258 v263 v266 (ix4 0 l h d) = 1#1) :
    v258 (ix3 0 h l) = 1#1 ∧ v263 (ix3 0 h l) = 1#1 ∧ ∀ j e, v266 (ix4 0 j h e) = 1#1 := by
  have key : ∀ u v : BitVec 1, IntOp.andi u v = 1#1 → u = 1#1 ∧ v = 1#1 := by decide
  unfold fn_part14 at H
  rw [show (fun (x : IVec S1x2048x16x64 1) (v : IVec S_ 1) => Host.reduce IntOp.andi x v Facts.reducesTo_S1x2048x16x64_S1x16_d1_3 Facts.h_S_) v266 (constantI S_ 1 1#1)
    = fun i => (Finset.univ.filter fun k => Facts.reducesTo_S1x2048x16x64_S1x16_d1_3.drop k = i).fold IntOp.andi 1#1 v266 from
      funext fun i => Host.reduce_eq_fold _ _ _ _ _ i] at H
  pointwise at H
  obtain ⟨H1, H2⟩ := key _ _ H
  obtain ⟨H1, H3⟩ := key _ _ H1
  refine ⟨H1, H3, fun j e => ?_⟩
  refine fold_andi _ _ H2 (ix4 0 j h e) (Finset.mem_filter.mpr ⟨Finset.mem_univ _, ?_⟩)
  funext b
  match b with
  | ⟨0, _⟩ => rfl
  | ⟨1, _⟩ => rfl

/-- The choice of the threshold, its count and the finiteness of the inputs. -/
theorem part13 (v243 v245 v246 v248 : FVec Ideal S1x16x2048x1 .f32) (hs : ∀ j, v0 (ix4 0 h l j) = s j)
    (hlo : v243 (ix4 0 h l 0) = σ.tlo) (hhi : v245 (ix4 0 h l 0) = σ.thi) (hchi : v246 (ix4 0 h l 0) = σ.chi)
    (hdlo : v248 (ix4 0 h l 0) = σ.clo - kk)
    (H : fn_part13 a0 a1 v0 v243 v245 v246 v248 (ix4 0 l h d) = 1#1) : Good a0 a1 h l s (pick σ) := by
  unfold fn_part13 at H
  obtain ⟨H1, H2, H3⟩ := part14 h l d _ _ _ H
  have key : ∀ u v : BitVec 32, IntOp.cmpi .eq u v = 1#1 → u = v := by
    intro u v huv
    by_contra hne
    have hb : (u == v) = false := by simpa using hne
    simp [IntOp.cmpi, hb] at huv
  refine ⟨?_, fun e => ?_, fun j e => ?_⟩
  · pointwise [hs, hlo, hhi, hchi, hdlo, select_ofBool] at H1
    pointwise [pick, kk]
    pointwise [kk] at H1
    exact key _ _ H1
  · pointwise [ofBits_top] at H2
    exact of_ofBool (fold_andi _ _ H2 e (Finset.mem_univ _))
  · have := H3 j e
    pointwise [ofBits_top] at this
    exact of_ofBool this

/-- The two last updates of the bracket. -/
theorem part12 (v154 v155 v156 v157 v188 v194 v216 v224 : FVec Ideal S1x16x2048x1 .f32) (v226 : IVec S1x16x2048x1 1)
    (hs : ∀ j, v0 (ix4 0 h l j) = s j) (hσ : AtSt v154 v155 v156 v157 h l σ)
    (ht : v188 (ix4 0 h l 0) = t) (hc : v194 (ix4 0 h l 0) = c) (htc : v216 (ix4 0 h l 0) = tc) (hcc : v224 (ix4 0 h l 0) = cc)
    (h6 : v226 (ix4 0 h l 0) = BitVec.ofBool (decide (kk ≤ c)))
    (H : fn_part12 a0 a1 v0 v154 v155 v156 v157 v188 v194 v216 v224 v226 (ix4 0 l h d) = 1#1) :
    Good a0 a1 h l s (pick (upd tc cc (upd t c σ))) := by
  unfold fn_part12 at H
  refine part13 a0 a1 h l d s _ v0 _ _ _ _ hs ?_ ?_ ?_ ?_ H <;>
  pointwise [hσ.tlo, hσ.clo, hσ.thi, hσ.chi, ht, hc, htc, hcc, h6, upd, kk, select_ofBool, andi_ofBool, not_ofBool]

/-- The adjusted probe and its count. -/
theorem part11 (v154 v155 v156 v157 v188 v194 v204 : FVec Ideal S1x16x2048x1 .f32) (v206 v208 : IVec S1x16x2048x1 1)
    (v209 : FVec Ideal S1x16x2048x2048 .f32)
    (hs : ∀ j, v0 (ix4 0 h l j) = s j) (hσ : AtSt v154 v155 v156 v157 h l σ)
    (ht : v188 (ix4 0 h l 0) = t) (hc : v194 (ix4 0 h l 0) = c) (hm2 : v204 (ix4 0 h l 0) = m2 s t)
    (hd : v206 (ix4 0 h l 0) = BitVec.ofBool (decide (kk < c))) (hu : v208 (ix4 0 h l 0) = BitVec.ofBool (decide (c < kk)))
    (hm1 : ∀ j, v209 (ix4 0 h l j) = m1 s t)
    (H : fn_part11 a0 a1 v0 v154 v155 v156 v157 v188 v194 v204 v206 v208 v209 (ix4 0 l h d) = 1#1) :
    Good a0 a1 h l s (pick (upd (tAdj s t c) (cAdj c) (upd t c σ))) := by
  unfold fn_part11 at H
  refine part12 a0 a1 h l d s σ t c _ _ v0 _ _ _ _ _ _ _ _ _ hs hσ ht hc ?_ ?_ ?_ H
  · unfold tAdj
    generalize m1 s t = M1 at *
    pointwise [hs, ht, hm2, hd, hu, hm1, next, kk, select_ofBool, ofBits_top]
  · pointwise [hc, hd, hu, cAdj, kk, select_ofBool]
  · pointwise [hc, kk]

/-- The fifth probe's count and its two neighbours. -/
theorem part10 (v154 v155 v156 v157 v188 : FVec Ideal S1x16x2048x1 .f32) (v191 : IVec S1x16x2048x2048 32) (w : IVec S_ 32)
    (hs : ∀ j, v0 (ix4 0 h l j) = s j) (hσ : AtSt v154 v155 v156 v157 h l σ) (ht : v188 (ix4 0 h l 0) = t)
    (hm : ∀ j, v191 (ix4 0 h l j) = BitVec.setWidth 32 (BitVec.ofBool (decide (t ≤ s j)))) (hw : w = constantI S_ 32 0#32)
    (H : fn_part10 a0 a1 v0 v154 v155 v156 v157 v188 v191 w (ix4 0 l h d) = 1#1) :
    Good a0 a1 h l s (finish s t σ) := by
  subst hw
  unfold fn_part10 at H
  refine part11 a0 a1 h l d s σ t (cnt s t) v0 _ _ _ _ _ _ _ _ _ _ hs hσ ht ?_ ?_ ?_ ?_ ?_ H
  · pointwise [hm, cnt]
  · pointwise [hs, ht, m2, select_ofBool, ofBits_top, ofBits_bot]
  · pointwise [hm, cnt, kk]
  · pointwise [hm, cnt, kk]
  · intro j
    pointwise [hs, ht, m1, select_ofBool, ofBits_top, ofBits_bot]

/-- The fifth probe. -/
theorem part9 (v16 v154 v155 v156 v157 v170 v172 : FVec Ideal S1x16x2048x1 .f32) (w : FVec Ideal S_ .f32)
    (hs : ∀ j, v0 (ix4 0 h l j) = s j) (hinv : v16 (ix4 0 h l 0) = inv) (hσ : AtSt v154 v155 v156 v157 h l σ)
    (hch : v170 (ix4 0 h l 0) = chord σ) (hd : v172 (ix4 0 h l 0) = σ.chi - kk) (hw : w = constant S_ .f32 0x40C00000#32)
    (H : fn_part9 a0 a1 v0 v16 v154 v155 v156 v157 v170 v172 w (ix4 0 l h d) = 1#1) :
    Good a0 a1 h l s (finish s (probe inv σ) σ) := by
  subst hw
  unfold fn_part9 at H
  refine part10 a0 a1 h l d s σ (probe inv σ) v0 _ _ _ _ _ _ _ hs hσ ?_ ?_ rfl H
  · pointwise [hinv, hσ.tlo, hσ.clo, hσ.thi, hσ.chi, hch, hd, probe, below, above, kk, select_ofBool]
  · intro j
    pointwise [hs, hinv, hσ.tlo, hσ.clo, hσ.thi, hσ.chi, hch, hd, probe, below, above, kk, select_ofBool]

/-- The end of the second chord round. -/
theorem part8 (v16 v106 v107 v108 v109 v140 v146 : FVec Ideal S1x16x2048x1 .f32) (v150 v153 : IVec S1x16x2048x1 1)
    (hs : ∀ j, v0 (ix4 0 h l j) = s j) (hinv : v16 (ix4 0 h l 0) = inv) (hσ : AtSt v106 v107 v108 v109 h l σ)
    (ht : v140 (ix4 0 h l 0) = t) (hc : v146 (ix4 0 h l 0) = c)
    (hl : v150 (ix4 0 h l 0) = BitVec.ofBool (decide (kk ≤ c) && decide (σ.tlo < t)))
    (hh : v153 (ix4 0 h l 0) = BitVec.ofBool ((!decide (kk ≤ c)) && decide (t < σ.thi)))
    (H : fn_part8 a0 a1 v0 v16 v106 v107 v108 v109 v140 v146 v150 v153 (ix4 0 l h d) = 1#1) :
    Good a0 a1 h l s (finish s (probe inv (upd t c σ)) (upd t c σ)) := by
  unfold fn_part8 at H
  refine part9 a0 a1 h l d s (upd t c σ) inv v0 _ _ _ _ _ _ _ _ hs hinv ⟨?_, ?_, ?_, ?_⟩ ?_ ?_ rfl H <;>
  pointwise [hσ.tlo, hσ.clo, hσ.thi, hσ.chi, ht, hc, hl, hh, upd, chord, kk, select_ofBool]

/-- The second chord round's count. -/
theorem part7 (v16 v106 v107 v108 v109 v122 v128 v133 : FVec Ideal S1x16x2048x1 .f32)
    (hs : ∀ j, v0 (ix4 0 h l j) = s j) (hinv : v16 (ix4 0 h l 0) = inv) (hσ : AtSt v106 v107 v108 v109 h l σ)
    (hch : v122 (ix4 0 h l 0) = chord σ) (hb : v128 (ix4 0 h l 0) = below inv σ)
    (ha : v133 (ix4 0 h l 0) = (σ.clo - kk + Ideal.ofBits .f32 0x40C00000#32) * inv)
    (H : fn_part7 a0 a1 v0 v16 v106 v107 v108 v109 v122 v128 v133 (ix4 0 l h d) = 1#1) :
    Good a0 a1 h l s (fin1 s inv σ) := by
  unfold fn_part7 at H
  refine part8 a0 a1 h l d s σ inv (probe inv σ) (cnt s (probe inv σ)) v0 _ _ _ _ _ _ _ _ _ hs hinv hσ ?_ ?_ ?_ ?_ H <;>
  pointwise [hs, hσ.tlo, hσ.clo, hσ.thi, hσ.chi, hch, hb, ha, probe, above, cnt, kk, select_ofBool, andi_ofBool, not_ofBool]

/-- The second chord round's three candidate probes. -/
theorem part6 (v16 v106 v107 v108 v109 v113 v114 : FVec Ideal S1x16x2048x1 .f32)
    (hs : ∀ j, v0 (ix4 0 h l j) = s j) (hinv : v16 (ix4 0 h l 0) = inv) (hσ : AtSt v106 v107 v108 v109 h l σ)
    (hn : v113 (ix4 0 h l 0) = σ.clo - kk + Ideal.ofBits .f32 0x3F000000#32) (hd : v114 (ix4 0 h l 0) = σ.clo - σ.chi)
    (H : fn_part6 a0 a1 v0 v16 v106 v107 v108 v109 v113 v114 (ix4 0 l h d) = 1#1) :
    Good a0 a1 h l s (fin1 s inv σ) := by
  unfold fn_part6 at H
  refine part7 a0 a1 h l d s σ inv v0 _ _ _ _ _ _ _ _ hs hinv hσ ?_ ?_ ?_ H <;>
  pointwise [hinv, hσ.tlo, hσ.clo, hσ.thi, hσ.chi, hn, hd, chord, below, kk]

/-- The end of the first chord round. -/
theorem part5 (v16 v58 v59 v60 v61 v92 : FVec Ideal S1x16x2048x1 .f32) (v94 : IVec S1x16x2048x2048 1)
    (hs : ∀ j, v0 (ix4 0 h l j) = s j) (hinv : v16 (ix4 0 h l 0) = inv) (hσ : AtSt v58 v59 v60 v61 h l σ)
    (ht : v92 (ix4 0 h l 0) = t) (hm : ∀ j, v94 (ix4 0 h l j) = BitVec.ofBool (decide (t ≤ s j)))
    (H : fn_part5 a0 a1 v0 v16 v58 v59 v60 v61 v92 v94 (ix4 0 l h d) = 1#1) :
    Good a0 a1 h l s (fin1 s inv (upd t (cnt s t) σ)) := by
  unfold fn_part5 at H
  refine part6 a0 a1 h l d s (upd t (cnt s t) σ) inv v0 _ _ _ _ _ _ _ hs hinv ⟨?_, ?_, ?_, ?_⟩ ?_ ?_ H <;>
  pointwise [hσ.tlo, hσ.clo, hσ.thi, hσ.chi, ht, hm, upd, cnt, kk, select_ofBool, andi_ofBool, not_ofBool]

/-- The first chord round's probe. -/
theorem part4 (v16 v58 v59 v60 v61 v74 v75 : FVec Ideal S1x16x2048x1 .f32)
    (hs : ∀ j, v0 (ix4 0 h l j) = s j) (hinv : v16 (ix4 0 h l 0) = inv) (hσ : AtSt v58 v59 v60 v61 h l σ)
    (hch : v74 (ix4 0 h l 0) = chord σ) (hk : v75 (ix4 0 h l 0) = kk)
    (H : fn_part4 a0 a1 v0 v16 v58 v59 v60 v61 v74 v75 (ix4 0 l h d) = 1#1) :
    Good a0 a1 h l s (fin1 s inv (step s inv σ)) := by
  unfold fn_part4 at H
  refine part5 a0 a1 h l d s σ inv (probe inv σ) v0 _ _ _ _ _ _ _ hs hinv hσ ?_ ?_ H
  · pointwise [hinv, hσ.tlo, hσ.clo, hσ.thi, hσ.chi, hch, hk, probe, below, above, kk, select_ofBool]
  · intro j
    pointwise [hs, hinv, hσ.tlo, hσ.clo, hσ.thi, hσ.chi, hch, hk, probe, below, above, kk, select_ofBool]

/-- The end of the second probe. -/
theorem part3 (v16 v29 v41 v42 v43 v44 v50 : FVec Ideal S1x16x2048x1 .f32) (v54 v55 : IVec S1x16x2048x1 1)
    (hs : ∀ j, v0 (ix4 0 h l j) = s j) (hinv : v16 (ix4 0 h l 0) = inv) (hσ : AtSt v41 v42 v43 v44 h l σ)
    (ht : v29 (ix4 0 h l 0) = t) (hc : v50 (ix4 0 h l 0) = c)
    (hl : v54 (ix4 0 h l 0) = BitVec.ofBool (decide (kk ≤ c) && decide (σ.tlo < t)))
    (hn : v55 (ix4 0 h l 0) = BitVec.ofBool (!decide (kk ≤ c)))
    (H : fn_part3 a0 a1 v0 v16 v29 v41 v42 v43 v44 v50 v54 v55 (ix4 0 l h d) = 1#1) :
    Good a0 a1 h l s (fin1 s inv (step s inv (upd t c σ))) := by
  unfold fn_part3 at H
  refine part4 a0 a1 h l d s (upd t c σ) inv v0 _ _ _ _ _ _ _ hs hinv ⟨?_, ?_, ?_, ?_⟩ ?_ ?_ H <;>
  pointwise [hσ.tlo, hσ.clo, hσ.thi, hσ.chi, ht, hc, hl, hn, upd, chord, kk, select_ofBool, andi_ofBool]

/-- The end of the first probe, and the second probe's count. -/
theorem part2 (v16 v19 v25 v29 v30 v31 v32 v33 : FVec Ideal S1x16x2048x1 .f32) (w : FVec Ideal S_ .f32)
    (hs : ∀ j, v0 (ix4 0 h l j) = s j) (hinv : v16 (ix4 0 h l 0) = inv) (hσ : AtSt v30 v31 v32 v33 h l σ)
    (ht : v19 (ix4 0 h l 0) = t) (hc : v25 (ix4 0 h l 0) = cnt s t) (ht1 : v29 (ix4 0 h l 0) = t1 s inv t)
    (hw : w = constant S_ .f32 0x44198000#32)
    (H : fn_part2 a0 a1 v0 v16 v19 v25 v29 v30 v31 v32 v33 w (ix4 0 l h d) = 1#1) :
    Good a0 a1 h l s (fin1 s inv (step s inv (two s inv t σ))) := by
  subst hw
  unfold fn_part2 at H
  refine part3 a0 a1 h l d s (upd t (cnt s t) σ) inv (t1 s inv t) (cnt s (t1 s inv t)) v0 _ _ _ _ _ _ _ _ _ hs hinv
    ⟨?_, ?_, ?_, ?_⟩ ht1 ?_ ?_ ?_ H
  on_goal 5 => pointwise [hs, ht1, cnt]
  all_goals
    generalize t1 s inv t = T1 at *
    generalize hC : cnt s t = C at *
    pointwise [hs, hσ.tlo, hσ.clo, hσ.thi, hσ.chi, ht, hc, ht1, upd, cnt, kk, select_ofBool, andi_ofBool, not_ofBool]

/-- The first probe and its count, and the bracket before any. -/
theorem part1 (v4 v14 v16 : FVec Ideal S1x16x2048x1 .f32) (w : FVec Ideal S_ .f32)
    (hs : ∀ j, v0 (ix4 0 h l j) = s j) (hmu : v4 (ix4 0 h l 0) = mu) (hsd : v14 (ix4 0 h l 0) = sd)
    (hinv : v16 (ix4 0 h l 0) = Row.inv sd) (hw : w = constant S_ .f32 0x3F063F1D#32)
    (H : fn_part1 a0 a1 v0 v4 v14 v16 w (ix4 0 l h d) = 1#1) :
    Good a0 a1 h l s (thr s mu sd) := by
  subst hw
  unfold fn_part1 at H
  unfold thr
  refine part2 a0 a1 h l d s start (Row.inv sd) (mu + Ideal.ofBits .f32 0x3F063F1D#32 * sd) v0 _ _ _ _ _ _ _ _ _ hs hinv
    ⟨?_, ?_, ?_, ?_⟩ ?_ ?_ ?_ rfl H <;>
  pointwise [hs, hmu, hsd, hinv, start, t1, cnt, kk]

/-- A row's mean score. -/
noncomputable def mean (s : Fin 2048 → EReal) : EReal := (∑ j, s j) * Ideal.ofBits .f32 0x3A000000#32

/-- A row's standard deviation. -/
noncomputable def dev (s : Fin 2048 → EReal) : EReal :=
  Ideal.sqrt (max ((∑ j, s j * s j) * Ideal.ofBits .f32 0x3A000000#32 - mean s * mean s) (Ideal.ofBits .f32 0x1E3CE508#32))

/-- Where the mask is true, the search from the row's own mean and deviation ends on a threshold that exactly 614 scores
    reach, and the query row and the head's keys are finite. -/
theorem good (a2 : FVec Ideal S1x2048x16x64 .f32) (hs : ∀ j, s j = ∑ e : Fin 64, a0 (ix4 0 l h e) * a1 (ix4 0 j h e))
    (H : fn a0 a1 a2 (ix4 0 l h d) = 1#1) : Good a0 a1 h l s (thr s (mean s) (dev s)) := by
  unfold fn at H
  refine part1 a0 a1 h l d s (mean s) (dev s) _ _ _ _ _ ?_ ?_ ?_ ?_ rfl H
  · intro j
    pointwise [hs, dot_S1x2048x16x64_S1x2048x16x64_S1x16x2048x2048_3_3_1_1_02_02]
  all_goals
    pointwise [hs, mean, dev, Row.inv, dot_S1x2048x16x64_S1x2048x16x64_S1x16x2048x2048_3_3_1_1_02_02]

end Mask
-- ==== Proof.WeightedMean.lean ====
/-
  The two softmax quotients agree: weights that differ by one positive factor give the same weighted mean, over values that
  may be infinite.
-/
module

public import Idealize.ShloMosaic.PureOps.Ideal

@[expose] public section

noncomputable section

namespace WeightedMean

open Idealize.ShloMosaic

variable {ι : Type} (S : Finset ι)

/-- A sum of reals, read among the extended reals. -/
theorem coe_sum (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A nonnegative real factor leaves a sum of extended reals. -/
theorem scale_sum {x : ℝ} (hx : 0 ≤ x) (f : ι → EReal) : ∑ j ∈ S, (x : EReal) * f j = x * ∑ j ∈ S, f j := by
  classical
  induction S using Finset.induction_on with
  | empty => simp
  | insert a S ha ih =>
    rw [Finset.sum_insert ha, Finset.sum_insert ha, ih,
      EReal.left_distrib_of_nonneg_of_ne_top (EReal.coe_nonneg.2 hx) (EReal.coe_ne_top x)]

/-- A quotient by a nonzero real. -/
theorem div_real {z : ℝ} (hz : z ≠ 0) (x : EReal) : Ideal.div x (z : EReal) = x * ((z⁻¹ : ℝ) : EReal) := by
  unfold Ideal.div
  rw [if_neg (by exact_mod_cast hz), EReal.coe_inv]

/-- The quotient of the weighted sum by the sum of the weights is the sum of the values times the normalised weights, when
    the two families of weights differ by the factor `κ`. -/
theorem quotient {n : Nat} (e w : Fin n → EReal) (r : Fin n → ℝ) (κ : ℝ) (v : Fin n → EReal) (hκ : 0 < κ) (hr : ∀ j, 0 ≤ r j)
    (hz : 0 < ∑ j, r j) (he : ∀ j, e j = (r j : EReal)) (hw : ∀ j, w j = ((κ * r j : ℝ) : EReal)) :
    Ideal.div (∑ j, w j * v j) (∑ j, w j * 1) = ∑ j, v j * Ideal.div (e j) (0 + ∑ j, e j) := by
  have hZ : (0 : EReal) + ∑ j, e j = ((∑ j, r j : ℝ) : EReal) := by
    rw [zero_add, coe_sum]; exact Finset.sum_congr rfl fun j _ => he j
  have hW : ∑ j, w j * 1 = ((κ * ∑ j, r j : ℝ) : EReal) := by
    rw [Finset.mul_sum, coe_sum]
    exact Finset.sum_congr rfl fun j _ => by rw [mul_one, hw]
  have hS : ∑ j, w j * v j = (κ : EReal) * ∑ j, (r j : EReal) * v j := by
    rw [← scale_sum _ hκ.le]
    exact Finset.sum_congr rfl fun j _ => by rw [hw, EReal.coe_mul, mul_assoc]
  have hR : ∑ j, v j * Ideal.div (e j) (0 + ∑ j, e j) = (((∑ j, r j)⁻¹ : ℝ) : EReal) * ∑ j, (r j : EReal) * v j := by
    rw [← scale_sum _ (inv_nonneg.2 hz.le)]
    refine Finset.sum_congr rfl fun j _ => ?_
    rw [hZ, div_real hz.ne', he, mul_comm, mul_comm (r j : EReal), mul_assoc]
  rw [hS, hW, hR, div_real (mul_pos hκ hz).ne', mul_comm, ← mul_assoc, ← EReal.coe_mul]
  congr 2
  field_simp

end WeightedMean
-- ==== Proof.FiniteRow.lean ====
/-
  A row of finite numbers: the kernel's moments from the keys' sums and Gram matrix are the moments of the scores, and every
  weight is a positive real or zero.
-/
module

public import proofs.«01_k».proof.Proof.Tile
public import proofs.«01_k».proof.Proof.Mask
public import proofs.«01_k».proof.Proof.WeightedMean

@[expose] public section

noncomputable section

namespace FiniteRow

open Idealize.ShloMosaic Tile Moments Row WeightedMean

/-- A number whose absolute value is below infinity is real. -/
theorem real_of_abs {x : EReal} (h : max x (-x) < ⊤) : ∃ r : ℝ, x = r := by
  induction x using EReal.rec with
  | bot => simp at h
  | top => simp at h
  | coe r => exact ⟨r, rfl⟩

/-- A single-precision word whose exponent field is not full denotes a real. -/
theorem real_of_bits (b : BitVec 32) (h : (b.extractLsb' 23 8).toNat ≠ 2 ^ 8 - 1) : ∃ r : ℝ, Ideal.ofBits .f32 b = r := by
  unfold Ideal.ofBits Ideal.ieee
  simp only [h, if_false]
  split_ifs <;> exact ⟨_, rfl⟩

/-- The variance's floor is a nonnegative real. -/
theorem floor_real : ∃ r : ℝ, 0 ≤ r ∧ Ideal.ofBits .f32 0x1E3CE508#32 = r := by
  refine ⟨(2 ^ 23 + 3990792 : ℕ) * (2 : ℝ) ^ (-90 : Int), by positivity, ?_⟩
  simp [Ideal.ofBits, Ideal.ieee, -EReal.coe_mul]

/-- The scale is one eighth. -/
theorem eighth : Ideal.ofBits .f32 0x3E000000#32 = ((1 / 8 : ℝ) : EReal) := by
  simp [Ideal.ofBits, Ideal.ieee, -EReal.coe_mul]
  norm_num

section
variable (a : Fin 64 → ℝ) (b : Fin 2048 → Fin 64 → ℝ)

/-- The scores of a finite row. -/
theorem sc_real (j : Fin 2048) : sc (fun e => (a e : EReal)) (fun j e => (b j e : EReal)) j = ((∑ e, a e * b j e : ℝ) : EReal) := by
  unfold sc
  rw [coe_sum]
  exact Finset.sum_congr rfl fun e _ => (EReal.coe_mul _ _).symm

/-- The query times the keys' column sums is the sum of the scores. -/
theorem sum_real : (∑ e, (a e : EReal) * ks (fun j e => (b j e : EReal)) e) = ∑ j, sc (fun e => (a e : EReal)) (fun j e => (b j e : EReal)) j := by
  have h1 : (∑ e, (a e : EReal) * ks (fun j e => (b j e : EReal)) e) = ((∑ e, a e * ∑ j, b j e : ℝ) : EReal) := by
    rw [coe_sum]
    refine Finset.sum_congr rfl fun e _ => ?_
    rw [EReal.coe_mul, coe_sum]; rfl
  rw [h1, Finset.sum_congr rfl fun j _ => sc_real a b j, ← coe_sum]
  refine congrArg Real.toEReal ?_
  simp only [Finset.mul_sum]
  exact Finset.sum_comm

/-- The query's quadratic form in the Gram matrix is the sum of the squared scores. -/
theorem square_real : (∑ e, (∑ d, (a d : EReal) * gm (fun j e => (b j e : EReal)) d e) * (a e : EReal))
    = ∑ j, sc (fun e => (a e : EReal)) (fun j e => (b j e : EReal)) j * sc (fun e => (a e : EReal)) (fun j e => (b j e : EReal)) j := by
  have h1 : (∑ e, (∑ d, (a d : EReal) * gm (fun j e => (b j e : EReal)) d e) * (a e : EReal))
      = ((∑ e, (∑ d, a d * ∑ j, b j d * b j e) * a e : ℝ) : EReal) := by
    rw [coe_sum]
    refine Finset.sum_congr rfl fun e _ => ?_
    rw [EReal.coe_mul, coe_sum]
    refine congrArg (· * (a e : EReal)) (Finset.sum_congr rfl fun d _ => ?_)
    rw [EReal.coe_mul, coe_sum]
    exact congrArg ((a d : EReal) * ·) (Finset.sum_congr rfl fun j _ => (EReal.coe_mul _ _).symm)
  have h2 : ∀ j, sc (fun e => (a e : EReal)) (fun j e => (b j e : EReal)) j * sc (fun e => (a e : EReal)) (fun j e => (b j e : EReal)) j
      = (((∑ e, a e * b j e) * (∑ e, a e * b j e) : ℝ) : EReal) := fun j => by rw [sc_real, EReal.coe_mul]
  rw [h1, Finset.sum_congr rfl fun j _ => h2 j, ← coe_sum]
  refine congrArg Real.toEReal ?_
  have h3 : ∀ j, (∑ e, a e * b j e) * (∑ e, a e * b j e) = ∑ e, ∑ d, a d * (b j d * b j e) * a e := fun j => by
    rw [Finset.sum_mul_sum, Finset.sum_comm]
    exact Finset.sum_congr rfl fun e _ => Finset.sum_congr rfl fun d _ => by ring
  rw [Finset.sum_congr rfl fun j _ => h3 j, Finset.sum_comm]
  refine Finset.sum_congr rfl fun e _ => ?_
  rw [Finset.sum_comm, Finset.sum_mul]
  refine Finset.sum_congr rfl fun d _ => ?_
  rw [Finset.mul_sum, Finset.sum_mul]

/-- The kernel's mean is the mean of the scores. -/
theorem mu_eq : mu (fun e => (a e : EReal)) (fun j e => (b j e : EReal)) = Mask.mean (sc (fun e => (a e : EReal)) (fun j e => (b j e : EReal))) := by
  unfold mu muK Mask.mean
  rw [sum_real]

/-- The kernel's deviation is the deviation of the scores. -/
theorem sd_eq : sd (fun e => (a e : EReal)) (fun j e => (b j e : EReal)) = Mask.dev (sc (fun e => (a e : EReal)) (fun j e => (b j e : EReal))) := by
  unfold sd sdK Mask.dev
  rw [square_real, ← mu_eq]
  rfl

end

/-- The mean of real scores is real. -/
theorem mean_real (r : Fin 2048 → ℝ) : ∃ m : ℝ, Mask.mean (fun j => (r j : EReal)) = m := by
  obtain ⟨c, hc⟩ := real_of_bits 0x3A000000#32 (by decide)
  exact ⟨(∑ j, r j) * c, by unfold Mask.mean; rw [hc, ← coe_sum, EReal.coe_mul]⟩

/-- The deviation of real scores is real. -/
theorem dev_real (r : Fin 2048 → ℝ) : ∃ d : ℝ, Mask.dev (fun j => (r j : EReal)) = d := by
  obtain ⟨c, hc⟩ := real_of_bits 0x3A000000#32 (by decide)
  obtain ⟨m, hm⟩ := mean_real r
  obtain ⟨f, hf0, hf⟩ := floor_real
  have hs : ∑ j, (r j : EReal) * (r j : EReal) = ((∑ j, r j * r j : ℝ) : EReal) := by
    rw [coe_sum]; exact Finset.sum_congr rfl fun j _ => (EReal.coe_mul _ _).symm
  refine ⟨Real.sqrt (max ((∑ j, r j * r j) * c - m * m) f), ?_⟩
  unfold Mask.dev
  rw [hm, hc, hf, hs, ← EReal.coe_mul, ← EReal.coe_mul, ← EReal.coe_sub, ← EReal.coe_strictMono.monotone.map_max]
  show (if max ((∑ j, r j * r j) * c - m * m) f < 0 then (⊥ : EReal) else _) = _
  rw [if_neg (not_lt.2 (hf0.trans (le_max_right _ _)))]

/-- The kernel's weight over real scores: the exponential of the scaled score times one positive factor, or zero. -/
theorem wt_real (r : Fin 2048 → ℝ) (m d M : ℝ) (t : EReal) :
    ∃ κ : ℝ, 0 < κ ∧ ∀ j, wt (fun j => (r j : EReal)) m d t j = ((κ * (if t ≤ (r j : EReal) then Real.exp (1 / 8 * r j - M) else 0) : ℝ) : EReal) := by
  obtain ⟨f, hf⟩ := real_of_bits 0x40800000#32 (by decide)
  refine ⟨Real.exp (M - (m + f * d) * (1 / 8)), Real.exp_pos _, fun j => ?_⟩
  unfold wt
  by_cases h : t ≤ (r j : EReal)
  · rw [if_pos h, decide_eq_true h, cond_true, hf, eighth, ← EReal.coe_mul, ← EReal.coe_add, ← EReal.coe_sub, ← EReal.coe_mul, ← Real.exp_add]
    show ((Real.exp _ : ℝ) : EReal) = _
    congr 2
    ring
  · rw [if_neg h, decide_eq_false h, cond_false, mul_zero, EReal.coe_zero]

end FiniteRow
-- ==== Proof.RefRow.lean ====
/-
  The reference's result at an index: the softmax of the row's sparse scores, times the head's column of values.
-/
module

public import proofs.«01_k».proof.Proof.RefTop
public import proofs.«01_k».proof.Proof.FiniteRow

@[expose] public section

noncomputable section

namespace RefRow

open Idealize.ShloMosaic Cert.ReferenceIdeal Cert.ReferenceIdeal.Gen Cert.ReferenceIdeal.Read RefTop

variable (x0 x1 x2 : FVec Ideal S1x2048x16x64 .f32) (h : Fin 16) (l : Fin 2048) (d : Fin 64)

/-- A row's scaled sparse score. -/
def scaled (j : Fin 2048) : EReal := Ideal.ofBits .f32 0x3E000000#32 * val_main_v21 (F := Ideal) x0 x1 (ix4 0 h l j)

/-- The greatest scaled sparse score of a row. -/
def top : EReal := Finset.univ.sup (scaled x0 x1 h l)

/-- The exponential of a scaled sparse score below the greatest. -/
def ex (j : Fin 2048) : EReal := Ideal.exp (scaled x0 x1 h l j - top x0 x1 h l)

/-- Minus infinity as a constant. -/
theorem bot_bits : Ideal.ofBits .f32 0xFF800000#32 = (⊥ : EReal) := by simp [Ideal.ofBits, Ideal.ieee]

/-- The last axis reduces away. -/
theorem red : S1x16x2048x2048.Reduces [3] S1x16x2048 := by decide

/-- A row's element of the operand of a reduction along the last axis. -/
theorem lifted (j : Fin 2048) : red.lift (ix3 0 h l) j = (ix4 0 h l j : S1x16x2048x2048.Idx) := by
  funext a
  match a with
  | ⟨0, _⟩ => rfl
  | ⟨1, _⟩ => rfl
  | ⟨2, _⟩ => rfl
  | ⟨3, _⟩ => rfl

/-- A maximum from minus infinity along the last axis is the row's supremum. -/
theorem reduce_max (y : FVec Ideal S1x16x2048x2048 .f32) (s : Fin 2048 → EReal) (hs : ∀ j, y (ix4 0 h l j) = s j) :
    Host.reduce (FloatOps.maximumf (F := Ideal) (φ := .f32)) y (val_main_cst_4 (F := Ideal)) reducesTo_S1x16x2048x2048_S1x16x2048_d3 h_S_ (ix3 0 h l)
      = Finset.univ.sup s := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [Host.reduce_eq_fold_single _ _ _ reducesTo_S1x16x2048x2048_S1x16x2048_d3 red h_S_, val_main_cst_4_apply]
  have hf : (y ∘ red.lift (ix3 0 h l)) = s := funext fun j => (congrArg y (lifted h l j)).trans (hs j)
  rw [hf]
  have hb : FloatOps.ofBits (F := Ideal) .f32 0xFF800000#32 = (⊥ : EReal) := bot_bits
  rw [hb]
  rfl

/-- The reference's row maximum. -/
theorem v26 : val_main_v26 (F := Ideal) x0 x1 (ix3 0 h l) = top x0 x1 h l := by
  have h23 : ∀ j, val_main_v23 (F := Ideal) x0 x1 (ix4 0 h l j) = scaled x0 x1 h l j := fun j => by
    rw [val_main_v23_apply, val_main_v22_apply, val_main_cst_3_apply]
    rfl
  have h24 : val_main_v24 (F := Ideal) x0 x1 (ix3 0 h l) = top x0 x1 h l := by
    unfold val_main_v24 top
    generalize val_main_v23 (F := Ideal) x0 x1 = y at h23 ⊢
    exact reduce_max h l y _ h23
  have hb : FloatOps.ofBits (F := Ideal) .f32 0xFF800000#32 = (⊥ : EReal) := bot_bits
  rw [val_main_v26_apply, h24, val_main_v25_apply, val_main_cst_5_apply, hb]
  exact max_eq_right bot_le

/-- The reference's exponentials. -/
theorem v30 (j : Fin 2048) : val_main_v30 (F := Ideal) x0 x1 (ix4 0 h l j) = ex x0 x1 h l j := by
  have hi : idx_main_v27 (idx_main_v28 (ix4 0 h l j)) = ix3 0 h l := by
    funext a
    match a with
    | ⟨0, _⟩ => rfl
    | ⟨1, _⟩ => rfl
    | ⟨2, _⟩ => rfl
  have h23 : val_main_v23 (F := Ideal) x0 x1 (ix4 0 h l j) = scaled x0 x1 h l j := by
    rw [val_main_v23_apply, val_main_v22_apply, val_main_cst_3_apply]
    rfl
  rw [val_main_v30_apply, val_main_v29_apply, val_main_v28_apply, val_main_v27_apply, hi, v26, h23]
  have he : ∀ a b : EReal, FloatOps.hostUnary (F := Ideal) (φ := .f32) .exp (FloatOps.subf (F := Ideal) (φ := .f32) a b) = Ideal.exp (a - b) :=
    fun _ _ => rfl
  exact he _ _

/-- The reference's normaliser. -/
theorem v31 : val_main_v31 (F := Ideal) x0 x1 (ix3 0 h l) = 0 + ∑ j, ex x0 x1 h l j := by
  have hi : ∀ j, idx_main_v31 (ix3 0 h l) j = ix4 0 h l j := fun j => by
    funext a; match a with | ⟨0, _⟩ => rfl | ⟨1, _⟩ => rfl | ⟨2, _⟩ => rfl | ⟨3, _⟩ => rfl
  have hz : FloatOps.ofBits (F := Ideal) .f32 0x00000000#32 = (0 : EReal) := Ideal.ofBits_zero_f32
  rw [val_main_v31_apply, val_main_cst_6_apply, hz, Finset.sum_congr rfl fun j _ => (congrArg _ (hi j)).trans (v30 x0 x1 h l j)]

/-- The reference's result at an index. -/
theorem result : val_main_v36 (F := Ideal) x0 x1 x2 (ix4 0 l h d)
    = ∑ j, x2 (ix4 0 j h d) * Ideal.div (ex x0 x1 h l j) (0 + ∑ j, ex x0 x1 h l j) := by
  rw [val_main_v36_apply, val_main_v35_apply]
  refine Finset.sum_congr rfl fun j _ => congr (congrArg HMul.hMul (congrArg x2 ?_)) ?_
  · funext a; match a with | ⟨0, _⟩ => rfl | ⟨1, _⟩ => rfl | ⟨2, _⟩ => rfl | ⟨3, _⟩ => rfl
  · have hr : ridx_main_v35 (idx_main_v36 (ix4 0 l h d)) j = ix4 0 h l j := by
      funext a; match a with | ⟨0, _⟩ => rfl | ⟨1, _⟩ => rfl | ⟨2, _⟩ => rfl | ⟨3, _⟩ => rfl
    have hi : idx_main_v32 (idx_main_v33 (ix4 0 h l j)) = ix3 0 h l := by
      funext a; match a with | ⟨0, _⟩ => rfl | ⟨1, _⟩ => rfl | ⟨2, _⟩ => rfl
    rw [hr, val_main_v34_apply, val_main_v33_apply, val_main_v32_apply, hi, v30, v31]
    rfl

/-- Over finite scores, 614 of which reach the threshold, the reference's exponentials are positive reals on those scores and
    zero elsewhere. -/
theorem ex_real (T : EReal) (r : Fin 2048 → ℝ) (hr : ∀ j, row x0 x1 h l j = (r j : EReal))
    (hc : (Finset.univ.filter fun j => T ≤ row x0 x1 h l j).card = 614) :
    ∃ M : ℝ, ∀ j, ex x0 x1 h l j = ((if T ≤ (r j : EReal) then Real.exp (1 / 8 * r j - M) else 0 : ℝ) : EReal) := by
  have hs : ∀ j, scaled x0 x1 h l j = if T ≤ (r j : EReal) then ((1 / 8 * r j : ℝ) : EReal) else ⊥ := fun j => by
    unfold scaled
    rw [sparse x0 x1 h l T hc, hr, FiniteRow.eighth]
    split_ifs
    · exact (EReal.coe_mul _ _).symm
    · exact EReal.coe_mul_bot_of_pos (by norm_num)
  obtain ⟨M, hM⟩ : ∃ M : ℝ, top x0 x1 h l = M := by
    obtain ⟨j, hj⟩ : (Finset.univ.filter fun j => T ≤ row x0 x1 h l j).Nonempty := Finset.card_pos.1 (by rw [hc]; decide)
    have hj' : T ≤ (r j : EReal) := by rw [← hr]; exact (Finset.mem_filter.1 hj).2
    have hlo : (⊥ : EReal) < top x0 x1 h l := by
      refine lt_of_lt_of_le ?_ (Finset.le_sup (f := scaled x0 x1 h l) (Finset.mem_univ j))
      rw [hs, if_pos hj']
      exact EReal.bot_lt_coe _
    have hhi : top x0 x1 h l < ⊤ := by
      refine (Finset.sup_lt_iff bot_lt_top).2 fun j _ => ?_
      rw [hs]
      split_ifs
      · exact EReal.coe_lt_top _
      · exact bot_lt_top
    exact ⟨(top x0 x1 h l).toReal, (EReal.coe_toReal hhi.ne hlo.ne').symm⟩
  refine ⟨M, fun j => ?_⟩
  unfold ex
  rw [hs, hM]
  split_ifs
  · rw [← EReal.coe_sub]; rfl
  · rw [EReal.bot_sub, EReal.coe_zero]; rfl

end RefRow
-- ==== Proof.KRun.lean ====
/-
  The kernel's run at the ideal instance: its result array, read at an index, is the kernel's result for the query row, the
  head's keys and the head's column of values.
-/
module

public import proofs.«01_k».proof.Proof.Tile
public import Idealize.ShloMosaic.Lib.StableHlo.Run

@[expose] public section

noncomputable section

namespace KRun

open Idealize.ShloMosaic Idealize.ShloMosaic.TcCoe Idealize.SL.Sem Cert.KernelIdeal Cert.KernelIdeal.Gen Tile
open Idealize.ShloMosaic.Pipeline (Dat)

/-- The kernel's result over the region's arrays, heads outermost. -/
def GA (a0 a1 a2 : FVec Ideal S16x2048x64 .f32) : FVec Ideal S16x2048x64 .f32 := fun i =>
  res (fun e => a0 (ix3 (i 0) (i 1) e)) (fun j e => a1 (ix3 (i 0) j e)) (fun j => a2 (ix3 (i 0) j (i 2)))

/-- The kernel's result over the arguments. -/
def GM (a0 a1 a2 : FVec Ideal S1x2048x16x64 .f32) (h : Fin 16) (l : Fin 2048) (d : Fin 64) : EReal :=
  res (fun e => a0 (ix4 0 l h e)) (fun j e => a1 (ix4 0 j h e)) (fun j => a2 (ix4 0 j h d))

variable (m : (ℓ : Loc nD τ sig) → Buf (Elt Ideal) ℓ) (ρ : Dev nD → PrngReg) (c : Dev nD)

/-- Every window's block index is the grid point's head. -/
theorem idx_facts : ∀ t : Fin cfg0.N, (win0_0.index t = ![t.val, 0, 0] ∧ win0_1.index t = ![t.val, 0, 0]) ∧
    win0_2.index t = ![t.val, 0, 0] ∧ win0_3.index t = ![t.val, 0, 0] :=
  (by decide +kernel : ∀ t : Fin grid0.N, (win0_0.index t = ![t.val, 0, 0] ∧ win0_1.index t = ![t.val, 0, 0]) ∧
    win0_2.index t = ![t.val, 0, 0] ∧ win0_3.index t = ![t.val, 0, 0])

/-- A grid point as a head. -/
def hd (t : Fin cfg0.N) : Fin 16 := ⟨t.val, Nat.lt_of_lt_of_eq t.isLt N_0⟩

/-- Two blocks agreeing at every row and lane are equal. -/
theorem block_ext (w g : FVec Ideal S1x2048x64 .f32) (h : ∀ (r : Fin 2048) (e : Fin 64), w (ix3 0 r e) = g (ix3 0 r e)) : w = g := by
  funext x
  have hx : x = ix3 0 (x 1) (x 2) := by
    funext a
    match a with
    | ⟨0, _⟩ => exact Subsingleton.elim (α := Fin 1) _ _
    | ⟨1, _⟩ => rfl
    | ⟨2, _⟩ => rfl
  rw [hx]
  exact h _ _

/-- The block of queries of a step is its head. -/
theorem emb0 (t : Fin cfg0.N) (r : Fin 2048) (e : Fin 64) : (win0_0.blk t).view.emb (ix3 0 r e) = ix3 (hd t) r e := by
  have h := (idx_facts t).1.1
  funext a
  match a with
  | ⟨0, _⟩ => exact Fin.ext (by show win0_0.index t 0 * 1 + 1 * 0 = t.val; rw [h]; show t.val * 1 + 1 * 0 = t.val; omega)
  | ⟨1, _⟩ => exact Fin.ext (by show win0_0.index t 1 * 2048 + 1 * r.val = r.val; rw [h]; show 0 * 2048 + 1 * r.val = r.val; omega)
  | ⟨2, _⟩ => exact Fin.ext (by show win0_0.index t 2 * 64 + 1 * e.val = e.val; rw [h]; show 0 * 64 + 1 * e.val = e.val; omega)
/-- The block of keys of a step is its head. -/
theorem emb1 (t : Fin cfg0.N) (r : Fin 2048) (e : Fin 64) : (win0_1.blk t).view.emb (ix3 0 r e) = ix3 (hd t) r e := by
  have h := (idx_facts t).1.2
  funext a
  match a with
  | ⟨0, _⟩ => exact Fin.ext (by show win0_1.index t 0 * 1 + 1 * 0 = t.val; rw [h]; show t.val * 1 + 1 * 0 = t.val; omega)
  | ⟨1, _⟩ => exact Fin.ext (by show win0_1.index t 1 * 2048 + 1 * r.val = r.val; rw [h]; show 0 * 2048 + 1 * r.val = r.val; omega)
  | ⟨2, _⟩ => exact Fin.ext (by show win0_1.index t 2 * 64 + 1 * e.val = e.val; rw [h]; show 0 * 64 + 1 * e.val = e.val; omega)
/-- The block of values of a step is its head. -/
theorem emb2 (t : Fin cfg0.N) (r : Fin 2048) (e : Fin 64) : (win0_2.blk t).view.emb (ix3 0 r e) = ix3 (hd t) r e := by
  have h := (idx_facts t).2.1
  funext a
  match a with
  | ⟨0, _⟩ => exact Fin.ext (by show win0_2.index t 0 * 1 + 1 * 0 = t.val; rw [h]; show t.val * 1 + 1 * 0 = t.val; omega)
  | ⟨1, _⟩ => exact Fin.ext (by show win0_2.index t 1 * 2048 + 1 * r.val = r.val; rw [h]; show 0 * 2048 + 1 * r.val = r.val; omega)
  | ⟨2, _⟩ => exact Fin.ext (by show win0_2.index t 2 * 64 + 1 * e.val = e.val; rw [h]; show 0 * 64 + 1 * e.val = e.val; omega)
/-- The block of results of a step is its head. -/
theorem emb3 (t : Fin cfg0.N) (r : Fin 2048) (e : Fin 64) : (win0_3.blk t).view.emb (ix3 0 r e) = ix3 (hd t) r e := by
  have h := (idx_facts t).2.2
  funext a
  match a with
  | ⟨0, _⟩ => exact Fin.ext (by show win0_3.index t 0 * 1 + 1 * 0 = t.val; rw [h]; show t.val * 1 + 1 * 0 = t.val; omega)
  | ⟨1, _⟩ => exact Fin.ext (by show win0_3.index t 1 * 2048 + 1 * r.val = r.val; rw [h]; show 0 * 2048 + 1 * r.val = r.val; omega)
  | ⟨2, _⟩ => exact Fin.ext (by show win0_3.index t 2 * 64 + 1 * e.val = e.val; rw [h]; show 0 * 64 + 1 * e.val = e.val; omega)

/-- What a grid point writes back is its block of the kernel's result over the region's arrays. -/
theorem flushed_eq (t : Fin cfg0.N) :
    (dats m 0 c).flushed 3 t = (win0_3.blk t).view.read (Elt Ideal) (GA (V m c main_v1) (V m c main_v3) (V m c main_v5)) := by
  show (cfg0.win 3).cut (grid0.coords t) ((dats m 0 c).after 3 t) = _
  rw [after0_3, outs_eq]
  refine block_ext _ _ fun r e => ?_
  show G (iblk m c 0 t) (iblk m c 1 t) (iblk m c 2 t) (ix3 0 r e) = GA (V m c main_v1) (V m c main_v3) (V m c main_v5) ((win0_3.blk t).view.emb (ix3 0 r e))
  rw [emb3]
  exact congr (congr (congrArg res (funext fun e => congrArg (V m c main_v1) (emb0 t r e)))
    (funext fun j => funext fun e => congrArg (V m c main_v3) (emb1 t j e))) (funext fun j => congrArg (V m c main_v5) (emb2 t j e))

/-- Every index of the region's result is in its head's block. -/
theorem cover_at (h : Fin 16) (l : Fin 2048) (d : Fin 64) :
    ∃ t : Fin cfg0.N, (cfg0.win 3).flush t = true ∧ (ix3 h l d : S16x2048x64.Idx) ∈ ((cfg0.win 3).blk t).view.set := by
  refine ⟨⟨h.val, Nat.lt_of_lt_of_eq h.isLt N_0.symm⟩, flush0_3 _, ?_⟩
  have e := emb3 ⟨h.val, Nat.lt_of_lt_of_eq h.isLt N_0.symm⟩ l d
  have e' : hd ⟨h.val, Nat.lt_of_lt_of_eq h.isLt N_0.symm⟩ = h := rfl
  rw [e'] at e
  rw [← e]
  exact Finset.mem_map_of_mem _ (Finset.mem_univ _)
/-- Every entry of the region's result is in the block of a step that writes it back. -/
theorem cover (i : S16x2048x64.Idx) : ∃ t : Fin cfg0.N, (cfg0.win 3).flush t = true ∧ i ∈ ((cfg0.win 3).blk t).view.set := by
  have hi : i = ix3 (i 0) (i 1) (i 2) := by
    funext a
    match a with
    | ⟨0, _⟩ => rfl
    | ⟨1, _⟩ => rfl
    | ⟨2, _⟩ => rfl
  rw [hi]
  exact cover_at _ _ _

/-- The region's result array. -/
theorem final : (dats m 0 c).arrAt 3 cfg0.N = GA (V m c main_v1) (V m c main_v3) (V m c main_v5) :=
  (dats m 0 c).arrAt_eq_of_cover 3 _ (fun t _ => flushed_eq m c t) cover

/-- The queries the region reads are the query argument, heads outermost. -/
theorem V1 (h : Fin 16) (l : Fin 2048) (e : Fin 64) : V m c main_v1 (ix3 h l e) = m ((c : Thread nD τ).loc main_arg0) (ix4 0 l h e) := by
  have : V m c main_v1 = shapeCast S16x2048x64 (transpose S1x16x2048x64 [0, 2, 1, 3] (m ((c : Thread nD τ).loc main_arg0))
      transposes_S1x2048x16x64_S1x16x2048x64_0_2_1_3) shapeCasts_S1x16x2048x64_S16x2048x64 := by
    show StableHlo.after hostOps0 (fun b => m (c, b)) (Proc.devRef .tc main_v1) = _
    simp only [hostOps0]
    after_results_simp
    rfl
  rw [this]
  pointwise
/-- The keys the region reads are the key argument, heads outermost. -/
theorem V3 (h : Fin 16) (l : Fin 2048) (e : Fin 64) : V m c main_v3 (ix3 h l e) = m ((c : Thread nD τ).loc main_arg1) (ix4 0 l h e) := by
  have : V m c main_v3 = shapeCast S16x2048x64 (transpose S1x16x2048x64 [0, 2, 1, 3] (m ((c : Thread nD τ).loc main_arg1))
      transposes_S1x2048x16x64_S1x16x2048x64_0_2_1_3) shapeCasts_S1x16x2048x64_S16x2048x64 := by
    show StableHlo.after hostOps0 (fun b => m (c, b)) (Proc.devRef .tc main_v3) = _
    simp only [hostOps0]
    after_results_simp
    rfl
  rw [this]
  pointwise
/-- The values the region reads are the value argument, heads outermost. -/
theorem V5 (h : Fin 16) (l : Fin 2048) (e : Fin 64) : V m c main_v5 (ix3 h l e) = m ((c : Thread nD τ).loc main_arg2) (ix4 0 l h e) := by
  have : V m c main_v5 = shapeCast S16x2048x64 (transpose S1x16x2048x64 [0, 2, 1, 3] (m ((c : Thread nD τ).loc main_arg2))
      transposes_S1x2048x16x64_S1x16x2048x64_0_2_1_3) shapeCasts_S1x16x2048x64_S16x2048x64 := by
    show StableHlo.after hostOps0 (fun b => m (c, b)) (Proc.devRef .tc main_v5) = _
    simp only [hostOps0]
    after_results_simp
    rfl
  rw [this]
  pointwise

/-- The lines behind the region bring the heads back inside. -/
theorem out_read (A : FVec Ideal S16x2048x64 .f32) (h : Fin 16) (l : Fin 2048) (d : Fin 64) :
    transpose S1x2048x16x64 [0, 2, 1, 3] (shapeCast S1x16x2048x64 A shapeCasts_S16x2048x64_S1x16x2048x64)
      transposes_S1x16x2048x64_S1x2048x16x64_0_2_1_3 (ix4 0 l h d) = A (ix3 h l d) := by
  pointwise

/-- The result buffer after the lines behind the region, at an index. -/
theorem tail (h : Fin 16) (l : Fin 2048) (d : Fin 64) :
    Pipeline.afterTail₀ cfgs (dats m) 0 (V0 m) [hostOps1] c main_v8 (ix4 0 l h d)
      = GM (m ((c : Thread nD τ).loc main_arg0)) (m ((c : Thread nD τ).loc main_arg1)) (m ((c : Thread nD τ).loc main_arg2)) h l d := by
  have : Pipeline.afterTail₀ cfgs (dats m) 0 (V0 m) [hostOps1] c main_v8
      = transpose S1x2048x16x64 [0, 2, 1, 3] (shapeCast S1x16x2048x64 ((dats m 0 c).arrAt 3 cfg0.N) shapeCasts_S16x2048x64_S1x16x2048x64)
        transposes_S1x16x2048x64_S1x2048x16x64_0_2_1_3 := by
    unfold Pipeline.afterTail₀
    have hw := Pipeline.withArrays_arr spec0 launch0.win.arr_inj c (V0 m c) (fun w => (dats m 0 c).arrAt w cfg0.N) 3
    show StableHlo.after [hostOps1].flatten (Pipeline.withArrays spec0 c (V0 m c) fun w => (dats m 0 c).arrAt w cfg0.N) (Proc.devRef .tc main_v8) = _
    rw [← hw]
    generalize Pipeline.withArrays spec0 c (V0 m c) (fun w => (dats m 0 c).arrAt w cfg0.N) = W
    after_results_simp <;> rfl
  rw [this, final]
  have hA : ∀ h l d, GA (V m c main_v1) (V m c main_v3) (V m c main_v5) (ix3 h l d)
      = GM (m ((c : Thread nD τ).loc main_arg0)) (m ((c : Thread nD τ).loc main_arg1)) (m ((c : Thread nD τ).loc main_arg2)) h l d := fun h l d =>
    congr (congr (congrArg res (funext fun e => V1 m c h l e)) (funext fun j => funext fun e => V3 m c h j e)) (funext fun j => V5 m c h j d)
  generalize GA (V m c main_v1) (V m c main_v3) (V m c main_v5) = A at hA ⊢
  refine Eq.trans ?_ (hA h l d)
  exact out_read A h l d

/-- The kernel's run: the result array at an index is the kernel's result there, and the arguments end unchanged. -/
theorem run : θ_run defs (onTc (τ := τ) (main (F := Ideal))) ⟨m, fun _ => 0, ρ⟩ fun r => ∀ c : Dev nD,
      r.2.mem ((c : Thread nD τ).loc main_v8) = Pipeline.afterTail₀ cfgs (dats m) 0 (V0 m) [hostOps1] c main_v8
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).2 main_v8 (Pipeline.mem_restRefs_of main_v8 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end KRun
-- ==== Proof.Agree.lean ====
/-
  The kernel's result and the reference's are equal wherever the mask holds.
-/
module

public import proofs.«01_k».proof.Proof.RefRow
public import proofs.«01_k».proof.Proof.KRun

@[expose] public section

noncomputable section

namespace Agree

open Idealize.ShloMosaic RefTop Cert.ReferenceIdeal

/-- A row of a head whose numbers are finite and whose threshold keeps exactly 614 scores: the kernel's result is the
    reference's. -/
theorem row_agrees (x0 x1 x2 : FVec Ideal S1x2048x16x64 .f32) (h : Fin 16) (l : Fin 2048) (d : Fin 64)
    (H : Mask.Good x0 x1 h l (row x0 x1 h l) (Row.thr (row x0 x1 h l) (Mask.mean (row x0 x1 h l)) (Mask.dev (row x0 x1 h l)))) :
    KRun.GM x0 x1 x2 h l d = Read.val_main_v36 (F := Ideal) x0 x1 x2 (ix4 0 l h d) := by
  have hq : ∃ a : Fin 64 → ℝ, (fun e => x0 (ix4 0 l h e)) = fun e => (a e : EReal) := by
    choose a ha using fun e => FiniteRow.real_of_abs (H.query e)
    exact ⟨a, funext ha⟩
  have hk : ∃ b : Fin 2048 → Fin 64 → ℝ, (fun j e => x1 (ix4 0 j h e)) = fun j e => (b j e : EReal) := by
    choose b hb using fun j e => FiniteRow.real_of_abs (H.keys j e)
    exact ⟨b, funext fun j => funext fun e => hb j e⟩
  obtain ⟨a, ha⟩ := hq
  obtain ⟨b, hb⟩ := hk
  have hsc : Tile.sc (fun e => (a e : EReal)) (fun j e => (b j e : EReal)) = row x0 x1 h l := by
    rw [← ha, ← hb]; rfl
  have hr : row x0 x1 h l = fun j => ((∑ e, a e * b j e : ℝ) : EReal) := by
    rw [← hsc]; exact funext fun j => FiniteRow.sc_real a b j
  have hc := Top.card_of_count _ _ H.count
  have hmu := FiniteRow.mu_eq a b
  have hsd := FiniteRow.sd_eq a b
  rw [hsc] at hmu hsd
  have hth : Tile.th (fun e => (a e : EReal)) (fun j e => (b j e : EReal))
      = Row.thr (row x0 x1 h l) (Mask.mean (row x0 x1 h l)) (Mask.dev (row x0 x1 h l)) := by
    unfold Tile.th
    rw [hsc, hmu, hsd]
  obtain ⟨m, hm⟩ := FiniteRow.mean_real fun j => ∑ e, a e * b j e
  obtain ⟨σ, hσ⟩ := FiniteRow.dev_real fun j => ∑ e, a e * b j e
  rw [← hr] at hm hσ
  generalize hT : Row.thr (row x0 x1 h l) (Mask.mean (row x0 x1 h l)) (Mask.dev (row x0 x1 h l)) = T at hc hth
  obtain ⟨M, hM⟩ := RefRow.ex_real x0 x1 h l T _ (fun j => congrFun hr j) hc
  obtain ⟨κ, hκ, hw⟩ := FiniteRow.wt_real (fun j => ∑ e, a e * b j e) m σ M T
  rw [RefRow.result]
  unfold KRun.GM
  rw [ha, hb]
  unfold Tile.res
  rw [hsc, hmu, hsd, hth, hm, hσ]
  refine WeightedMean.quotient _ _ _ κ _ hκ (fun j => ?_) ?_ hM (fun j => by rw [hr]; exact hw j)
  · split_ifs
    · exact (Real.exp_pos _).le
    · exact le_rfl
  · obtain ⟨j, hj⟩ : (Finset.univ.filter fun j => T ≤ row x0 x1 h l j).Nonempty := Finset.card_pos.1 (by rw [hc]; decide)
    have hj' : T ≤ ((∑ e, a e * b j e : ℝ) : EReal) := by rw [← congrFun hr j]; exact (Finset.mem_filter.1 hj).2
    refine Finset.sum_pos' (fun j _ => ?_) ⟨j, Finset.mem_univ _, ?_⟩
    · split_ifs
      · exact (Real.exp_pos _).le
      · exact le_rfl
    · rw [if_pos hj']; exact Real.exp_pos _

/-- Where the mask holds the kernel's result is the reference's. -/
theorem agrees [Cert.On_exact_rows.Facts] (x0 x1 x2 : FVec Ideal S1x2048x16x64 .f32) (l : Fin 2048) (h : Fin 16) (d : Fin 64)
    (H : Cert.On_exact_rows.fn x0 x1 x2 (ix4 0 l h d) = 1#1) :
    KRun.GM x0 x1 x2 h l d = Read.val_main_v36 (F := Ideal) x0 x1 x2 (ix4 0 l h d) :=
  row_agrees x0 x1 x2 h l d (Mask.good x0 x1 h l d (row x0 x1 h l) x2 (fun _ => rfl) H)

end Agree
-- ==== Proof.lean ====
/- The five claims: the three frames, the kernel and its Ideal reading, and the kernel and the reference equal on the mask's rows. -/
module

public import proofs.«01_k».proof.Proof.Gen.ReferenceIdeal.Run
public import proofs.«01_k».proof.Proof.Gen.ReferenceIdeal.Read
public import proofs.«01_k».proof.Defs
public import Idealize.ShloMosaic.Lib.Quiescent
public import proofs.«01_k».proof.Proof.Agree
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_exact_rows
public import Idealize.ShloMosaic.Adequacy
public import Idealize.ShloMosaic.Init

@[expose] public section

noncomputable section

namespace Cert.Proof

open Idealize.ShloMosaic Idealize.SL.Sem Cert.Kernel

/-- The reference runs to the end, leaves its arguments as they were, and declares no semaphore. -/
theorem frame_r : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- An index of the result as its batch, row, head and lane. -/
theorem split (i : (⟨4, ![1, 2048, 16, 64]⟩ : Shape).Idx) :
    ∃ (l : Fin 2048) (h : Fin 16) (d : Fin 64), i = ix4 0 l h d := by
  refine ⟨i 1, i 2, i 3, funext fun a => ?_⟩
  match a with
  | ⟨0, _⟩ => exact Fin.ext (Nat.lt_one_iff.1 (i 0).isLt)
  | ⟨1, _⟩ => rfl
  | ⟨2, _⟩ => rfl
  | ⟨3, _⟩ => rfl

/-- The kernel and the reference agree wherever the mask holds. -/
theorem value : haveI := Cert.KernelIdeal.Gen.facts
    haveI := Cert.ReferenceIdeal.Gen.facts
    haveI := Cert.On_exact_rows.Gen.facts
    Cert.algebraic_KernelIdeal_ReferenceIdeal_on_exact_rows := by
  intro m g m' g' _ hagree
  haveI := Cert.On_exact_rows.Gen.facts
  refine ⟨fun c => Cert.ReferenceIdeal.Read.val_main_v36 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨fun i hi => ?_, (h c).2⟩) (KRun.run m g)
    obtain ⟨l, hd, d, rfl⟩ := split i
    exact (congrFun (h c).1 (ix4 0 l hd d)).trans ((KRun.tail m c hd l d).trans (Agree.agrees _ _ _ l hd d hi))
  · refine (θ_run Cert.ReferenceIdeal.defs _ _).mono (fun r h c => ⟨fun i _ => ?_, (h c).2⟩) (Cert.ReferenceIdeal.Value.run (F := Ideal) m' g')
    have e := (h c).1.trans (Cert.ReferenceIdeal.Read.val_main_v36_eq m' c)
    rw [(hagree c).1, (hagree c).2.1, (hagree c).2.2] at e
    exact congrFun e i

/-- The whole claim. -/
theorem claim : Cert.Claim := ⟨Cert.Kernel.Gen.facts, Cert.KernelIdeal.Gen.facts, Cert.ReferenceIdeal.Gen.facts, Cert.On_exact_rows.Gen.facts,
  fun m ρ _ => Cert.Kernel.Gen.frame m ρ, fun m ρ _ => Cert.KernelIdeal.Gen.frame m ρ, frame_r, trivial, value⟩

end Cert.Proof

end
